-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096x64 : Shape := ⟨3, ![128, 4096, 64]⟩
abbrev S384x64 : Shape := ⟨2, ![384, 64]⟩
abbrev S384x128 : Shape := ⟨2, ![384, 128]⟩
abbrev S384 : Shape := ⟨1, ![384]⟩
abbrev S2x128 : Shape := ⟨2, ![2, 128]⟩
abbrev S2 : Shape := ⟨1, ![2]⟩
abbrev S4096x128x64 : Shape := ⟨3, ![4096, 128, 64]⟩
abbrev S256 : Shape := ⟨1, ![256]⟩
abbrev S_ : Shape := ⟨0, ![]⟩
abbrev S128 : Shape := ⟨1, ![128]⟩
abbrev S64x384 : Shape := ⟨2, ![64, 384]⟩
abbrev S128x384 : Shape := ⟨2, ![128, 384]⟩
abbrev S1x384 : Shape := ⟨2, ![1, 384]⟩
abbrev S1x128 : Shape := ⟨2, ![1, 128]⟩
abbrev S128x2 : Shape := ⟨2, ![128, 2]⟩
abbrev S1x2 : Shape := ⟨2, ![1, 2]⟩
abbrev S128x64x64 : Shape := ⟨3, ![128, 64, 64]⟩
abbrev S64x2 : Shape := ⟨2, ![64, 2]⟩
abbrev S64x64 : Shape := ⟨2, ![64, 64]⟩
abbrev S64x128 : Shape := ⟨2, ![64, 128]⟩
abbrev S2x8192x384 : Shape := ⟨3, ![2, 8192, 384]⟩
abbrev S1x64x64 : Shape := ⟨3, ![1, 64, 64]⟩
abbrev S1x64x384 : Shape := ⟨3, ![1, 64, 384]⟩
abbrev S8192x64 : Shape := ⟨2, ![8192, 64]⟩
abbrev S8192x384 : Shape := ⟨2, ![8192, 384]⟩
abbrev S1x8192x384 : Shape := ⟨3, ![1, 8192, 384]⟩
abbrev S128x1x2 : Shape := ⟨3, ![128, 1, 2]⟩

abbrev nBuf : Space → Nat
  | .hbm => 22
  | .vmem => 15
  | .smem => 0
  | _ => 0

abbrev bufTy : (tb : Table) → Fin (tcTables nBuf tb) → BufTy
  | .hbm, ⟨0, _⟩ => ⟨S128x4096x64, .f32⟩
  | .hbm, ⟨1, _⟩ => ⟨S384x64, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S2x128, .f32⟩
  | .hbm, ⟨6, _⟩ => ⟨S2, .f32⟩
  | .hbm, ⟨7, _⟩ => ⟨S4096x128x64, .f32⟩
  | .hbm, ⟨8, _⟩ => ⟨S256, .f32⟩
  | .hbm, ⟨9, _⟩ => ⟨S_, .f32⟩
  | .hbm, ⟨10, _⟩ => ⟨S128, .f32⟩
  | .hbm, ⟨11, _⟩ => ⟨S384, .f32⟩
  | .hbm, ⟨12, _⟩ => ⟨S384, .f32⟩
  | .hbm, ⟨13, _⟩ => ⟨S128, .f32⟩
  | .hbm, ⟨14, _⟩ => ⟨S64x384, .f32⟩
  | .hbm, ⟨15, _⟩ => ⟨S128x384, .f32⟩
  | .hbm, ⟨16, _⟩ => ⟨S1x384, .f32⟩
  | .hbm, ⟨17, _⟩ => ⟨S1x128, .f32⟩
  | .hbm, ⟨18, _⟩ => ⟨S128x2, .f32⟩
  | .hbm, ⟨19, _⟩ => ⟨S1x2, .f32⟩
  | .hbm, ⟨20, _⟩ => ⟨S128x2, .f32⟩
  | .hbm, ⟨21, _⟩ => ⟨S128x1x2, .f32⟩
  | .local _ .vmem, ⟨0, _⟩ => ⟨S128x64x64, .f32⟩
  | .local _ .vmem, ⟨1, _⟩ => ⟨S128x64x64, .f32⟩
  | .local _ .vmem, ⟨2, _⟩ => ⟨S64x384, .f32⟩
  | .local _ .vmem, ⟨3, _⟩ => ⟨S128x384, .f32⟩
  | .local _ .vmem, ⟨4, _⟩ => ⟨S1x384, .f32⟩
  | .local _ .vmem, ⟨5, _⟩ => ⟨S1x128, .f32⟩
  | .local _ .vmem, ⟨6, _⟩ => ⟨S128x2, .f32⟩
  | .local _ .vmem, ⟨7, _⟩ => ⟨S1x2, .f32⟩
  | .local _ .vmem, ⟨8, _⟩ => ⟨S64x2, .f32⟩
  | .local _ .vmem, ⟨9, _⟩ => ⟨S64x2, .f32⟩
  | .local _ .vmem, ⟨10, _⟩ => ⟨S64x64, .f32⟩
  | .local _ .vmem, ⟨11, _⟩ => ⟨S64x64, .f32⟩
  | .local _ .vmem, ⟨12, _⟩ => ⟨S64x128, .f32⟩
  | .local _ .vmem, ⟨13, _⟩ => ⟨S128x64x64, .f32⟩
  | .local _ .vmem, ⟨14, _⟩ => ⟨S2x8192x384, .f32⟩
  | _, _ => ⟨S128x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 33], ![false, false]⟩

@[reducible] def k0_t1_loop : Scf.Loop 32 :=
  let c0_i32_7 : BitVec 32 := 0#32
  let c128_i32 : BitVec 32 := 128#32
  let v9 : BitVec 32 := Scalar.addi c0_i32_7 c128_i32
  let c1_i32_8 : BitVec 32 := 1#32
  ⟨c0_i32_7, v9, c1_i32_8⟩
def k0_off1 (k0_t1 : Fin k0_t1_loop.trips) : Fin 3 → Nat :=
  let c0_i32_7 : BitVec 32 := 0#32
  let c1_i32_8 : BitVec 32 := 1#32
  let arg15 : BitVec 32 := Scf.iv c0_i32_7 c1_i32_8 k0_t1
  let v26 : Index := Scalar.indexCast arg15
  let c0_19 : Index := 0#32
  let c0_20 : Index := 0#32
  ![v26.toNat, 0, 0]
def k0_off2 (i : grid0.Coords) (k0_t1 : Fin k0_t1_loop.trips) : Fin 3 → Nat :=
  let arg1 : BitVec 32 := BitVec.ofNat 32 (i 1).val
  let c1_i32 : BitVec 32 := 1#32
  let v4 : BitVec 32 := Scalar.addi arg1 c1_i32
  let c2_i32_1 : BitVec 32 := 2#32
  let v5 : BitVec 32 := Scalar.remsi v4 c2_i32_1
  let v44 : Index := Scalar.indexCast v5
  let c0_i32_7 : BitVec 32 := 0#32
  let c1_i32_8 : BitVec 32 := 1#32
  let arg15 : BitVec 32 := Scf.iv c0_i32_7 c1_i32_8 k0_t1
  let c64_i32 : BitVec 32 := 64#32
  let v43 : BitVec 32 := Scalar.muli arg15 c64_i32
  let v45 : Index := Scalar.indexCast v43
  let c0_26 : Index := 0#32
  ![v44.toNat, v45.toNat, 0]
def k0_cond4 (i : grid0.Coords) : BitVec 1 :=
  let arg1 : BitVec 32 := BitVec.ofNat 32 (i 1).val
  let c32_i32_15 : BitVec 32 := 32#32
  let v20 : BitVec 1 := Scalar.cmpi .slt arg1 c32_i32_15
  let v21 : BitVec 32 := Scalar.extui v20
  let c0_i32_16 : BitVec 32 := 0#32
  let v22 : BitVec 1 := Scalar.cmpi .ne v21 c0_i32_16
  v22

def k0_off3 (i : grid0.Coords) : Fin 3 → Nat :=
  let arg1 : BitVec 32 := BitVec.ofNat 32 (i 1).val
  let c2_i32 : BitVec 32 := 2#32
  let v3 : BitVec 32 := Scalar.remsi arg1 c2_i32
  let v35 : Index := Scalar.indexCast v3
  let c0_26 : Index := 0#32
  let c0_27 : Index := 0#32
  ![v35.toNat, 0, 0]
def k0_cond5 (i : grid0.Coords) : BitVec 1 :=
  let arg1 : BitVec 32 := BitVec.ofNat 32 (i 1).val
  let c32_i32_17 : BitVec 32 := 32#32
  let v23 : BitVec 1 := Scalar.cmpi .eq arg1 c32_i32_17
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S128x4096x64 : Shape := ⟨3, ![128, 4096, 64]⟩
abbrev S384x64 : Shape := ⟨2, ![384, 64]⟩
abbrev S384x128 : Shape := ⟨2, ![384, 128]⟩
abbrev S384 : Shape := ⟨1, ![384]⟩
abbrev S2x128 : Shape := ⟨2, ![2, 128]⟩
abbrev S2 : Shape := ⟨1, ![2]⟩
abbrev S128x1x64 : Shape := ⟨3, ![128, 1, 64]⟩
abbrev S128x64 : Shape := ⟨2, ![128, 64]⟩
abbrev S128x4095x64 : Shape := ⟨3, ![128, 4095, 64]⟩
abbrev S4095x128x64 : Shape := ⟨3, ![4095, 128, 64]⟩
abbrev S_ : Shape := ⟨0, ![]⟩
abbrev S1x128x64 : Shape := ⟨3, ![1, 128, 64]⟩
abbrev S128x1x2 : Shape := ⟨3, ![128, 1, 2]⟩
abbrev S128x4096x384 : Shape := ⟨3, ![128, 4096, 384]⟩
abbrev S1x1x384 : Shape := ⟨3, ![1, 1, 384]⟩
abbrev S128x128 : Shape := ⟨2, ![128, 128]⟩
abbrev S4096x128x384 : Shape := ⟨3, ![4096, 128, 384]⟩
abbrev S1x128x384 : Shape := ⟨3, ![1, 128, 384]⟩
abbrev S128x384 : Shape := ⟨2, ![128, 384]⟩
abbrev S1x384 : Shape := ⟨2, ![1, 384]⟩
abbrev S128x2 : Shape := ⟨2, ![128, 2]⟩
abbrev S1x2 : Shape := ⟨2, ![1, 2]⟩

abbrev nBuf : Space → Nat
  | .hbm => 154
  | .vmem => 0
  | .smem => 0
  | _ => 0

abbrev hbmTy0_0 (i : Nat) : BufTy := match i % 128 with
  | 0 => ⟨S128x4096x64, .f32⟩
  | 1 => ⟨S384x64, .f32⟩
  | 2 => ⟨S384x128, .f32⟩
  | 3 => ⟨S384, .f32⟩
  | 4 => ⟨S384, .f32⟩
  | 5 => ⟨S2x128, .f32⟩
  | 6 => ⟨S2, .f32⟩
  | 7 => ⟨S128x1x64, .f32⟩
  | 8 => ⟨S128x64, .f32⟩
  | 9 => ⟨S128x4095x64, .f32⟩
  | 10 => ⟨S4095x128x64, .f32⟩
  | 11 => ⟨S_, .f32⟩
  | 12 => ⟨S4095x128x64, .f32⟩
  | 13 => ⟨S_, .i32⟩
  | 14 => ⟨S4095x128x64, .f32⟩
  | 15 => ⟨S_, .i32⟩
  | 16 => ⟨S128x64, .f32⟩
  | 17 => ⟨S4095x128x64, .f32⟩
  | 18 => ⟨S_, .i32⟩
  | 19 => ⟨S_, .i1⟩
  | 20 => ⟨S_, .i32⟩
  | 21 => ⟨S_, .i32⟩
  | 22 => ⟨S1x128x64, .f32⟩
  | 23 => ⟨S128x64, .f32⟩
  | 24 => ⟨S_, .f32⟩
  | 25 => ⟨S128x64, .f32⟩
  | 26 => ⟨S128x64, .f32⟩
  | 27 => ⟨S_, .f32⟩
  | 28 => ⟨S128x64, .f32⟩
  | 29 => ⟨S128x64, .f32⟩
  | 30 => ⟨S128x64, .f32⟩
  | 31 => ⟨S1x128x64, .f32⟩
  | 32 => ⟨S_, .i32⟩
  | 33 => ⟨S_, .i32⟩
  | 34 => ⟨S4095x128x64, .f32⟩
  | 35 => ⟨S_, .i32⟩
  | 36 => ⟨S_, .i32⟩
  | 37 => ⟨S128x1x64, .f32⟩
  | 38 => ⟨S128x4095x64, .f32⟩
  | 39 => ⟨S128x4096x64, .f32⟩
  | 40 => ⟨S128x1x2, .f32⟩
  | 41 => ⟨S128x1x64, .f32⟩
  | 42 => ⟨S128x64, .f32⟩
  | 43 => ⟨S128x4095x64, .f32⟩
  | 44 => ⟨S4095x128x64, .f32⟩
  | 45 => ⟨S_, .f32⟩
  | 46 => ⟨S4095x128x64, .f32⟩
  | 47 => ⟨S_, .i32⟩
  | 48 => ⟨S4095x128x64, .f32⟩
  | 49 => ⟨S_, .i32⟩
  | 50 => ⟨S128x64, .f32⟩
  | 51 => ⟨S4095x128x64, .f32⟩
  | 52 => ⟨S_, .i32⟩
  | 53 => ⟨S_, .i1⟩
  | 54 => ⟨S_, .i32⟩
  | 55 => ⟨S_, .i32⟩
  | 56 => ⟨S1x128x64, .f32⟩
  | 57 => ⟨S128x64, .f32⟩
  | 58 => ⟨S_, .f32⟩
  | 59 => ⟨S128x64, .f32⟩
  | 60 => ⟨S128x64, .f32⟩
  | 61 => ⟨S_, .f32⟩
  | 62 => ⟨S128x64, .f32⟩
  | 63 => ⟨S128x64, .f32⟩
  | 64 => ⟨S128x64, .f32⟩
  | 65 => ⟨S1x128x64, .f32⟩
  | 66 => ⟨S_, .i32⟩
  | 67 => ⟨S_, .i32⟩
  | 68 => ⟨S4095x128x64, .f32⟩
  | 69 => ⟨S_, .i32⟩
  | 70 => ⟨S_, .i32⟩
  | 71 => ⟨S128x1x64, .f32⟩
  | 72 => ⟨S128x4095x64, .f32⟩
  | 73 => ⟨S128x4096x64, .f32⟩
  | 74 => ⟨S128x1x2, .f32⟩
  | 75 => ⟨S128x4096x384, .f32⟩
  | 76 => ⟨S1x1x384, .f32⟩
  | 77 => ⟨S128x4096x384, .f32⟩
  | 78 => ⟨S128x4096x384, .f32⟩
  | 79 => ⟨S_, .f32⟩
  | 80 => ⟨S128x128, .f32⟩
  | 81 => ⟨S4096x128x384, .f32⟩
  | 82 => ⟨S_, .i32⟩
  | 83 => ⟨S4096x128x384, .f32⟩
  | 84 => ⟨S384x128, .f32⟩
  | 85 => ⟨S384, .f32⟩
  | 86 => ⟨S_, .i32⟩
  | 87 => ⟨S128x128, .f32⟩
  | 88 => ⟨S_, .i32⟩
  | 89 => ⟨S_, .i1⟩
  | 90 => ⟨S_, .i32⟩
  | 91 => ⟨S_, .i32⟩
  | 92 => ⟨S1x128x384, .f32⟩
  | 93 => ⟨S128x384, .f32⟩
  | 94 => ⟨S128x384, .f32⟩
  | 95 => ⟨S128x384, .f32⟩
  | 96 => ⟨S1x384, .f32⟩
  | 97 => ⟨S128x384, .f32⟩
  | 98 => ⟨S128x384, .f32⟩
  | 99 => ⟨S128x128, .f32⟩
  | 100 => ⟨S128x128, .f32⟩
  | 101 => ⟨S128x128, .f32⟩
  | 102 => ⟨S128x128, .f32⟩
  | 103 => ⟨S128x128, .f32⟩
  | 104 => ⟨S128x128, .f32⟩
  | 105 => ⟨S128x128, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S_, .f32⟩
  | 112 => ⟨S128x128, .f32⟩
  | 113 => ⟨S128x128, .f32⟩
  | 114 => ⟨S128x128, .f32⟩
  | 115 => ⟨S128x128, .f32⟩
  | 116 => ⟨S128x128, .f32⟩
  | 117 => ⟨S_, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S128x4096x64, .f32⟩

abbrev hbmTy0_1 (i : Nat) : BufTy := match i % 128 with
  | 0 => ⟨S128x128, .f32⟩
  | 1 => ⟨S128x128, .f32⟩
  | 2 => ⟨S128x128, .f32⟩
  | 3 => ⟨S128x128, .f32⟩
  | 4 => ⟨S_, .i32⟩
  | 5 => ⟨S_, .i32⟩
  | 6 => ⟨S128x2, .f32⟩
  | 7 => ⟨S128x2, .f32⟩
  | 8 => ⟨S1x2, .f32⟩
  | 9 => ⟨S128x2, .f32⟩
  | 10 => ⟨S128x2, .f32⟩
  | 11 => ⟨S128x1x2, .f32⟩
  | 12 => ⟨S_, .f32⟩
  | 13 => ⟨S128x1x2, .f32⟩
  | 14 => ⟨S128x1x2, .f32⟩
  | 15 => ⟨S128x1x2, .f32⟩
  | 16 => ⟨S_, .f32⟩
  | 17 => ⟨S128x1x2, .f32⟩
  | 18 => ⟨S128x1x2, .f32⟩
  | 19 => ⟨S_, .f32⟩
  | 20 => ⟨S128x1x2, .f32⟩
  | 21 => ⟨S128x1x2, .f32⟩
  | 22 => ⟨S128x1x2, .f32⟩
  | 23 => ⟨S_, .f32⟩
  | 24 => ⟨S128x1x2, .f32⟩
  | 25 => ⟨S128x1x2, .f32⟩
  | _ => ⟨S128x4096x64, .f32⟩

abbrev hbmTy (i : Nat) : BufTy := match i / 128 with
  | 0 => hbmTy0_0 i
  | 1 => hbmTy0_1 i
  | _ => ⟨S128x4096x64, .f32⟩

abbrev bufTy : (tb : Table) → Fin (tcTables nBuf tb) → BufTy
  | .hbm, ⟨i, _⟩ => hbmTy i
  | _, _ => ⟨S128x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_while0c_c_11 : Ref sig .tc := ⟨.hbm, 18, rfl⟩
abbrev main_while0c_v43 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v43 : Ref sig .tc := ⟨.hbm, 23, rfl⟩
abbrev main_while0b_cst_11 : Ref sig .tc := ⟨.hbm, 24, rfl⟩
abbrev main_while0b_v44 : Ref sig .tc := ⟨.hbm, 25, rfl⟩
abbrev main_while0b_v45 : Ref sig .tc := ⟨.hbm, 26, rfl⟩
abbrev main_while0b_cst_12 : Ref sig .tc := ⟨.hbm, 27, rfl⟩
abbrev main_while0b_v46 : Ref sig .tc := ⟨.hbm, 28, rfl⟩
abbrev main_while0b_v47 : Ref sig .tc := ⟨.hbm, 29, rfl⟩
abbrev main_while0b_v48 : Ref sig .tc := ⟨.hbm, 30, rfl⟩
abbrev main_while0b_call1_v0 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_v49 : Ref sig .tc := ⟨.hbm, 34, rfl⟩
abbrev main_while0b_c_13 : Ref sig .tc := ⟨.hbm, 35, rfl⟩
abbrev main_while0b_v50 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_0 : Ref sig .tc := ⟨.hbm, 45, rfl⟩
abbrev main_v14 : Ref sig .tc := ⟨.hbm, 46, rfl⟩
abbrev main_c_1 : Ref sig .tc := ⟨.hbm, 47, rfl⟩
abbrev main_v15_0 : Ref sig .tc := ⟨.hbm, 48, rfl⟩
abbrev main_v15_1 : Ref sig .tc := ⟨.hbm, 49, rfl⟩
abbrev main_v15_2 : Ref sig .tc := ⟨.hbm, 50, rfl⟩
abbrev main_v15_3 : Ref sig .tc := ⟨.hbm, 51, rfl⟩
abbrev main_while1c_c_11 : Ref sig .tc := ⟨.hbm, 52, rfl⟩
abbrev main_while1c_v43 : Ref sig .tc := ⟨.hbm, 53, rfl⟩
abbrev main_while1b_call2_c : Ref sig .tc := ⟨.hbm, 54, rfl⟩
abbrev main_while1b_call2_c_0 : Ref sig .tc := ⟨.hbm, 55, rfl⟩
abbrev main_while1b_call2_v0 : Ref sig .tc := ⟨.hbm, 56, rfl⟩
abbrev main_while1b_v43 : Ref sig .tc := ⟨.hbm, 57, rfl⟩
abbrev main_while1b_cst_11 : Ref sig .tc := ⟨.hbm, 58, rfl⟩
abbrev main_while1b_v44 : Ref sig .tc := ⟨.hbm, 59, rfl⟩
abbrev main_while1b_v45 : Ref sig .tc := ⟨.hbm, 60, rfl⟩
abbrev main_while1b_cst_12 : Ref sig .tc := ⟨.hbm, 61, rfl⟩
abbrev main_while1b_v46 : Ref sig .tc := ⟨.hbm, 62, rfl⟩
abbrev main_while1b_v47 : Ref sig .tc := ⟨.hbm, 63, rfl⟩
abbrev main_while1b_v48 : Ref sig .tc := ⟨.hbm, 64, rfl⟩
abbrev main_while1b_call3_v0 : Ref sig .tc := ⟨.hbm, 65, rfl⟩
abbrev main_while1b_call3_c : Ref sig .tc := ⟨.hbm, 66, rfl⟩
abbrev main_while1b_call3_c_0 : Ref sig .tc := ⟨.hbm, 67, rfl⟩
abbrev main_while1b_v49 : Ref sig .tc := ⟨.hbm, 68, rfl⟩
abbrev main_while1b_c_13 : Ref sig .tc := ⟨.hbm, 69, rfl⟩
abbrev main_while1b_v50 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_2 : Ref sig .tc := ⟨.hbm, 79, rfl⟩
abbrev main_v24 : Ref sig .tc := ⟨.hbm, 80, rfl⟩
abbrev main_v25 : Ref sig .tc := ⟨.hbm, 81, rfl⟩
abbrev main_c_3 : Ref sig .tc := ⟨.hbm, 82, rfl⟩
abbrev main_v26_0 : Ref sig .tc := ⟨.hbm, 83, rfl⟩
abbrev main_v26_1 : Ref sig .tc := ⟨.hbm, 84, rfl⟩
abbrev main_v26_2 : Ref sig .tc := ⟨.hbm, 85, rfl⟩
abbrev main_v26_3 : Ref sig .tc := ⟨.hbm, 86, rfl⟩
abbrev main_v26_4 : Ref sig .tc := ⟨.hbm, 87, rfl⟩
abbrev main_while2c_c_12 : Ref sig .tc := ⟨.hbm, 88, rfl⟩
abbrev main_while2c_v43 : Ref sig .tc := ⟨.hbm, 89, rfl⟩
abbrev main_while2b_call4_c : Ref sig .tc := ⟨.hbm, 90, rfl⟩
abbrev main_while2b_call4_c_0 : Ref sig .tc := ⟨.hbm, 91, rfl⟩
abbrev main_while2b_call4_v0 : Ref sig .tc := ⟨.hbm, 92, rfl⟩
abbrev main_while2b_v43 : Ref sig .tc := ⟨.hbm, 93, rfl⟩
abbrev main_while2b_v44 : Ref sig .tc := ⟨.hbm, 94, rfl⟩
abbrev main_while2b_v45 : Ref sig .tc := ⟨.hbm, 95, rfl⟩
abbrev main_while2b_v46 : Ref sig .tc := ⟨.hbm, 96, rfl⟩
abbrev main_while2b_v47 : Ref sig .tc := ⟨.hbm, 97, rfl⟩
abbrev main_while2b_v48 : Ref sig .tc := ⟨.hbm, 98, rfl⟩
abbrev main_while2b_v49 : Ref sig .tc := ⟨.hbm, 99, rfl⟩
abbrev main_while2b_v50 : Ref sig .tc := ⟨.hbm, 100, rfl⟩
abbrev main_while2b_v51 : Ref sig .tc := ⟨.hbm, 101, rfl⟩
abbrev main_while2b_v52 : Ref sig .tc := ⟨.hbm, 102, rfl⟩
abbrev main_while2b_v53 : Ref sig .tc := ⟨.hbm, 103, rfl⟩
abbrev main_while2b_v54 : Ref sig .tc := ⟨.hbm, 104, rfl⟩
abbrev main_while2b_v55 : Ref sig .tc := ⟨.hbm, 105, rfl⟩
abbrev main_while2b_v56 : Ref sig .tc := ⟨.hbm, 106, rfl⟩
abbrev main_while2b_v57 : Ref sig .tc := ⟨.hbm, 107, rfl⟩
abbrev main_while2b_cst_12 : Ref sig .tc := ⟨.hbm, 108, rfl⟩
abbrev main_while2b_v58 : Ref sig .tc := ⟨.hbm, 109, rfl⟩
abbrev main_while2b_v59 : Ref sig .tc := ⟨.hbm, 110, rfl⟩
abbrev main_while2b_cst_13 : Ref sig .tc := ⟨.hbm, 111, rfl⟩
abbrev main_while2b_v60 : Ref sig .tc := ⟨.hbm, 112, rfl⟩
abbrev main_while2b_v61 : Ref sig .tc := ⟨.hbm, 113, rfl⟩
abbrev main_while2b_v62 : Ref sig .tc := ⟨.hbm, 114, rfl⟩
abbrev main_while2b_v63 : Ref sig .tc := ⟨.hbm, 115, rfl⟩
abbrev main_while2b_v64 : Ref sig .tc := ⟨.hbm, 116, rfl⟩
abbrev main_while2b_cst_14 : Ref sig .tc := ⟨.hbm, 117, rfl⟩
abbrev main_while2b_v65 : Ref sig .tc := ⟨.hbm, 118, rfl⟩
abbrev main_while2b_v66 : Ref sig .tc := ⟨.hbm, 119, rfl⟩
abbrev main_while2b_cst_15 : Ref sig .tc := ⟨.hbm, 120, rfl⟩
abbrev main_while2b_v67 : Ref sig .tc := ⟨.hbm, 121, rfl⟩
abbrev main_while2b_v68 : Ref sig .tc := ⟨.hbm, 122, rfl⟩
abbrev main_while2b_v69 : Ref sig .tc := ⟨.hbm, 123, rfl⟩
abbrev main_while2b_v70 : Ref sig .tc := ⟨.hbm, 124, rfl⟩
abbrev main_while2b_v71 : Ref sig .tc := ⟨.hbm, 125, rfl⟩
abbrev main_while2b_cst_16 : Ref sig .tc := ⟨.hbm, 126, rfl⟩
abbrev main_while2b_v72 : Ref sig .tc := ⟨.hbm, 127, rfl⟩
abbrev main_while2b_v73 : Ref sig .tc := ⟨.hbm, 128, rfl⟩
abbrev main_while2b_v74 : Ref sig .tc := ⟨.hbm, 129, rfl⟩
abbrev main_while2b_v75 : Ref sig .tc := ⟨.hbm, 130, rfl⟩
abbrev main_while2b_v76 : Ref sig .tc := ⟨.hbm, 131, rfl⟩
abbrev main_while2b_c_17 : Ref sig .tc := ⟨.hbm, 132, rfl⟩
abbrev main_while2b_v77 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_cst_4 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_cst_5 : Ref sig .tc := ⟨.hbm, 144, rfl⟩
abbrev main_v36 : Ref sig .tc := ⟨.hbm, 145, rfl⟩
abbrev main_v37 : Ref sig .tc := ⟨.hbm, 146, rfl⟩
abbrev main_cst_6 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_cst_7 : Ref sig .tc := ⟨.hbm, 151, rfl⟩
abbrev main_v41 : Ref sig .tc := ⟨.hbm, 152, rfl⟩
abbrev main_v42 : Ref sig .tc := ⟨.hbm, 153, rfl⟩

abbrev nD : Nat := 1
abbrev τ : Topo := Topo.v7x

variable {F : FTy → Type} [FloatOps F]

abbrev main_while0_count : Scf.Loop 32 := ⟨0#32, 4095#32, 1#32⟩

abbrev main_while1_count : Scf.Loop 32 := ⟨0#32, 4095#32, 1#32⟩

abbrev main_while2_count : Scf.Loop 32 := ⟨0#32, 4096#32, 1#32⟩
-- ==== Proof.StepI.lean ====
module

public import proofs.«01_k».proof.Proof.Gen.KernelIdeal
public import proofs.«01_k».proof.Proof.Gen.KernelIdeal.Skeleton
public import Idealize.ShloMosaic.Lib.ValueIdxCore

/- What one trip of the kernel's loop computes, as functions of arrays alone, and what those functions become when the trips are counted along
   the whole time axis. -/

@[expose] public section

noncomputable section

namespace Cert.KernelIdeal.Hand

open Cert.KernelIdeal Cert.KernelIdeal.Gen
open Idealize.ShloMosaic Idealize.ShloMosaic.ValueIdx

variable {F : FTy → Type} [FloatOps F]

/-- Time row `k` of a block of the input. -/
def xAt (x : Vec F S128x64x64 .f32) (k : ℕ) : Vec F S1x64x64 .f32 := fun j => x (ix3 (Fin.ofNat 128 k) (j 1) (j 2))

/-- The 64 batch rows of time row `k` in slot `s` of the buffer of input projections. -/
def pAt (p : Vec F S2x8192x384 .f32) (s k : ℕ) : Vec F S1x64x384 .f32 := fun j => p (ix3 (Fin.ofNat 2 s) (Fin.ofNat 8192 (64 * k + (j 1).val)) (j 2))

/-- The 64 batch rows of time row `k` in one block of input projections. -/
def qAt (q : Vec F S1x8192x384 .f32) (k : ℕ) : Vec F S1x64x384 .f32 := fun j => q (ix3 0 (Fin.ofNat 8192 (64 * k + (j 1).val)) (j 2))

/-- One step of the recurrent cell, from the hidden state `h` and the input projection `p` of the step. -/
def cell (whh : Vec F S128x384 .f32) (bn : Vec F S1x128 .f32) (p : Vec F S1x64x384 .f32) (h : Vec F S64x128 .f32) : Vec F S64x128 .f32 :=
  k0_pay5 h (k0_pay15 p) (k0_pay16 h whh) (k0_pay17 h p whh) (k0_pay18 h p whh) bn

/-- One step of the two chained moving averages, at the input row `r`. -/
def avg (r : Vec F S1x64x64 .f32) (e : Vec F S64x64 .f32 × Vec F S64x64 .f32) : Vec F S64x64 .f32 × Vec F S64x64 .f32 :=
  (k0_pay12 e.1 r, k0_pay13 e.1 e.2 r)

/-- The moving averages after `n` steps over the rows `r`. -/
def eRun (r : ℕ → Vec F S1x64x64 .f32) (e : Vec F S64x64 .f32 × Vec F S64x64 .f32) : ℕ → Vec F S64x64 .f32 × Vec F S64x64 .f32
  | 0 => e
  | n + 1 => avg (r n) (eRun r e n)

/-- The hidden state after `n` steps over the projections `p`. -/
def hRun (whh : Vec F S128x384 .f32) (bn : Vec F S1x128 .f32) (p : ℕ → Vec F S1x64x384 .f32) (h : Vec F S64x128 .f32) : ℕ → Vec F S64x128 .f32
  | 0 => h
  | n + 1 => cell whh bn (p n) (hRun whh bn p h n)

/-- The second average at every time row of a block, the block entered with the averages `e`. -/
def smooth (r : ℕ → Vec F S1x64x64 .f32) (e : Vec F S64x64 .f32 × Vec F S64x64 .f32) : Vec F S128x64x64 .f32 := fun y =>
  k0_pay14 (eRun r e (y 0).val).1 (eRun r e (y 0).val).2 (r (y 0).val) (ix3 0 (y 1) (y 2))

/-- Steps over `m + k` rows are the steps over the first `m` and then over the `k` after them. -/
theorem eRun_add (r : ℕ → Vec F S1x64x64 .f32) (e : Vec F S64x64 .f32 × Vec F S64x64 .f32) (m k : ℕ) :
    eRun r e (m + k) = eRun (fun i => r (m + i)) (eRun r e m) k := by
  induction k with
  | zero => rfl
  | succ k ih => exact congrArg (avg (r (m + k))) ih

/-- The averages depend on the rows stepped over only. -/
theorem eRun_congr {r r' : ℕ → Vec F S1x64x64 .f32} (e : Vec F S64x64 .f32 × Vec F S64x64 .f32) {n : ℕ} (h : ∀ i, i < n → r i = r' i) :
    eRun r e n = eRun r' e n := by
  induction n with
  | zero => rfl
  | succ n ih =>
    show avg (r n) (eRun r e n) = avg (r' n) (eRun r' e n)
    rw [ih fun i hi => h i (by omega), h n (by omega)]

/-- Steps over `m + k` projections are the steps over the first `m` and then over the `k` after them. -/
theorem hRun_add (whh : Vec F S128x384 .f32) (bn : Vec F S1x128 .f32) (p : ℕ → Vec F S1x64x384 .f32) (h : Vec F S64x128 .f32) (m k : ℕ) :
    hRun whh bn p h (m + k) = hRun whh bn (fun i => p (m + i)) (hRun whh bn p h m) k := by
  induction k with
  | zero => rfl
  | succ k ih => exact congrArg (cell whh bn (p (m + k))) ih

/-- The hidden state depends on the projections stepped over only. -/
theorem hRun_congr (whh : Vec F S128x384 .f32) (bn : Vec F S1x128 .f32) {p p' : ℕ → Vec F S1x64x384 .f32} (h : Vec F S64x128 .f32) {n : ℕ}
    (hp : ∀ i, i < n → p i = p' i) : hRun whh bn p h n = hRun whh bn p' h n := by
  induction n with
  | zero => rfl
  | succ n ih =>
    show cell whh bn (p n) (hRun whh bn p h n) = cell whh bn (p' n) (hRun whh bn p' h n)
    rw [ih fun i hi => hp i (by omega), hp n (by omega)]

/- ## Along the whole time axis -/

/-- Input row `n` of the time axis, in the block that holds it. -/
def rows (X : ℕ → Vec F S128x64x64 .f32) (n : ℕ) : Vec F S1x64x64 .f32 := xAt (X (n / 128)) (n % 128)

/-- The averages before time row `n`: both start at the first row. -/
def emas (X : ℕ → Vec F S128x64x64 .f32) (n : ℕ) : Vec F S64x64 .f32 × Vec F S64x64 .f32 :=
  eRun (rows X) (k0_pay3 (xAt (X 0) 0), k0_pay4 (xAt (X 0) 0)) n

/-- Block `tb` of the input projections. -/
def proj (wih : Vec F S64x384 .f32) (bp : Vec F S1x384 .f32) (X : ℕ → Vec F S128x64x64 .f32) (tb : ℕ) : Vec F S1x8192x384 .f32 :=
  k0_pay10 (smooth (xAt (X tb)) (emas X (128 * tb))) wih bp

/-- The hidden state before time row `n`, from zeros. -/
def hid (wih : Vec F S64x384 .f32) (bp : Vec F S1x384 .f32) (whh : Vec F S128x384 .f32) (bn : Vec F S1x128 .f32) (X : ℕ → Vec F S128x64x64 .f32) (n : ℕ) :
    Vec F S64x128 .f32 :=
  hRun whh bn (fun i => qAt (proj wih bp X (i / 128)) (i % 128)) k0_pay9 n

/-- The block of results: the last hidden state through the last layer, and the averages' share taken off. -/
def outB (wih : Vec F S64x384 .f32) (bp : Vec F S1x384 .f32) (whh : Vec F S128x384 .f32) (bn : Vec F S1x128 .f32) (wfc : Vec F S128x2 .f32) (bfc : Vec F S1x2 .f32)
    (X : ℕ → Vec F S128x64x64 .f32) : Vec F S64x2 .f32 :=
  k0_pay11 (emas X 4096).1 (emas X 4096).2 (hid wih bp whh bn X 4096) wfc bfc

/-- Position `k` of block `tb` on the time axis, `k` within the block: its block is `tb` and its place in it `k`. -/
theorem block_pos {tb k : ℕ} (hk : k < 128) : (128 * tb + k) / 128 = tb ∧ (128 * tb + k) % 128 = k := by
  constructor <;> omega

/-- The averages after `k` steps inside block `tb`. -/
theorem emas_block (X : ℕ → Vec F S128x64x64 .f32) (tb : ℕ) {k : ℕ} (hk : k ≤ 128) :
    eRun (xAt (X tb)) (emas X (128 * tb)) k = emas X (128 * tb + k) := by
  unfold emas
  rw [eRun_add]
  refine eRun_congr _ fun i hi => ?_
  obtain ⟨h1, h2⟩ := block_pos (tb := tb) (k := i) (by omega)
  show _ = xAt (X ((128 * tb + i) / 128)) ((128 * tb + i) % 128)
  rw [h1, h2]

/-- The hidden state after `k` steps inside block `tb`. -/
theorem hid_block (wih : Vec F S64x384 .f32) (bp : Vec F S1x384 .f32) (whh : Vec F S128x384 .f32) (bn : Vec F S1x128 .f32) (X : ℕ → Vec F S128x64x64 .f32) (tb : ℕ) {k : ℕ}
    (hk : k ≤ 128) :
    hRun whh bn (qAt (proj wih bp X tb)) (hid wih bp whh bn X (128 * tb)) k = hid wih bp whh bn X (128 * tb + k) := by
  unfold hid
  rw [hRun_add]
  refine hRun_congr _ _ _ fun i hi => ?_
  obtain ⟨h1, h2⟩ := block_pos (tb := tb) (k := i) (by omega)
  show _ = qAt (proj wih bp X ((128 * tb + i) / 128)) ((128 * tb + i) % 128)
  rw [h1, h2]

end Cert.KernelIdeal.Hand

end
-- ==== Proof.TripI.lean ====
module

public import proofs.«01_k».proof.Proof.Gen.KernelIdeal.Loops
public import proofs.«01_k».proof.Proof.StepI
public import Idealize.ShloMosaic.Lib.VecWindow
public import Idealize.ShloMosaic.Lib.WritesUnit

/- What the kernel's loop leaves: the carried averages and hidden state, and the block of smoothed rows. -/

@[expose] public section

noncomputable section

namespace Cert.KernelIdeal.Hand

open Cert.KernelIdeal Cert.KernelIdeal.Gen
open Idealize.ShloMosaic Idealize.ShloMosaic.ValueIdx Idealize.ShloMosaic.TcCoe

variable {F : FTy → Type} [FloatOps F]

/-- The loop makes 128 trips. -/
theorem trips_eq : k0_t1_loop.trips = 128 := by decide

/-- Trip `k` works at time row `k` of the block. -/
theorem off1_eq : ∀ k : Fin k0_t1_loop.trips, k0_off1 k = ![k.val, 0, 0] := by decide

/-- The row of projections trip `k` reads: in the slot the point before filled, 64 batch rows from `64 * k` on. -/
theorem off2_slot : ∀ a : Fin 33, (Scalar.indexCast (Scalar.remsi (Scalar.addi (BitVec.ofNat 32 a.val) 1#32) 2#32)).toNat = (a.val + 1) % 2 := by decide

/-- The rows of trip `k` start at `64 * k`. -/
theorem off2_row : ∀ k : Fin k0_t1_loop.trips, (Scalar.indexCast (Scalar.muli (Scf.iv 0#32 1#32 k.val) 64#32)).toNat = 64 * k.val := by decide

/-- Where trip `k` of the recurrence reads its projections: the other slot than the one being filled, from row `64 * k`. -/
theorem off2_eq (i : grid0.Coords) (k : Fin k0_t1_loop.trips) : k0_off2 i k = ![((i 1).val + 1) % 2, 64 * k.val, 0] := by
  have h1 := off2_slot (i 1)
  have h2 := off2_row k
  show ![_, _, _] = _
  rw [h1, h2]

/-- A window of one time row of a block is that row. -/
theorem window_row (x : Vec F S128x64x64 .f32) (k : ℕ) (hk : k < 128) (inb : ∀ a, (![k, 0, 0] : Fin 3 → ℕ) a + S1x64x64.size a ≤ S128x64x64.size a) :
    VecWindow.window (s := S128x64x64) x ![k, 0, 0] S1x64x64.size inb = xAt x k := by
  funext j
  refine congrArg x (funext fun a => Fin.ext ?_)
  have h0 : (j 0).val < 1 := (j 0).isLt
  match a with
  | ⟨0, _⟩ =>
    show k + 1 * (j 0).val = k % 128
    omega
  | ⟨1, _⟩ => show 0 + 1 * (j 1).val = (j 1).val; omega
  | ⟨2, _⟩ => show 0 + 1 * (j 2).val = (j 2).val; omega

/-- A window of one time row of projections is that row. -/
theorem window_proj (p : Vec F S2x8192x384 .f32) (s k : ℕ) (hs : s < 2) (hk : k < 128)
    (inb : ∀ a, (![s, 64 * k, 0] : Fin 3 → ℕ) a + S1x64x384.size a ≤ S2x8192x384.size a) :
    VecWindow.window (s := S2x8192x384) p ![s, 64 * k, 0] S1x64x384.size inb = pAt p s k := by
  funext j
  refine congrArg p (funext fun a => Fin.ext ?_)
  have h0 : (j 0).val < 1 := (j 0).isLt
  have h1 : (j 1).val < 64 := (j 1).isLt
  match a with
  | ⟨0, _⟩ =>
    show s + 1 * (j 0).val = s % 2
    omega
  | ⟨1, _⟩ =>
    show 64 * k + 1 * (j 1).val = (64 * k + (j 1).val) % 8192
    omega
  | ⟨2, _⟩ => show 0 + 1 * (j 2).val = (j 2).val; omega

/-- A load of the row of trip `k`, of any contents. -/
theorem load_row (v : View sig .tc .vmem S128x64x64 .f32) (X : v.ty.Contents (Elt F)) (k : Fin k0_t1_loop.trips) (inb) :
    v.readAt (Elt F) (Rect.unit (s := S128x64x64) (k0_off1 k) S1x64x64.size inb).toLoadRect X = xAt (v.read (Elt F) X) k.val := by
  have hk : k.val < 128 := trips_eq ▸ k.isLt
  rw [View.readAt_unit v X inb (off1_eq k) (off1_eq k ▸ inb)]
  exact window_row _ _ hk _

/-- A load of the projections of trip `k`, of any contents. -/
theorem load_proj (v : View sig .tc .vmem S2x8192x384 .f32) (X : v.ty.Contents (Elt F)) (i : grid0.Coords) (k : Fin k0_t1_loop.trips) (inb) :
    v.readAt (Elt F) (Rect.unit (s := S2x8192x384) (k0_off2 i k) S1x64x384.size inb).toLoadRect X = pAt (v.read (Elt F) X) (((i 1).val + 1) % 2) k.val := by
  have hk : k.val < 128 := trips_eq ▸ k.isLt
  rw [View.readAt_unit v X inb (off2_eq i k) (off2_eq i k ▸ inb)]
  exact window_proj _ _ _ (by omega) hk _

section
variable (c : Dev nD) (i : grid0.Coords)
    (arg2 : Memref sig .tc .vmem S128x64x64 .f32) (harg2 : arg2.IsWhole)
    (arg3 : Memref sig .tc .vmem S64x384 .f32) (harg3 : arg3.IsWhole)
    (arg4 : Memref sig .tc .vmem S128x384 .f32) (harg4 : arg4.IsWhole)
    (arg5 : Memref sig .tc .vmem S1x384 .f32) (harg5 : arg5.IsWhole)
    (arg6 : Memref sig .tc .vmem S1x128 .f32) (harg6 : arg6.IsWhole)
    (arg7 : Memref sig .tc .vmem S128x2 .f32) (harg7 : arg7.IsWhole)
    (arg8 : Memref sig .tc .vmem S1x2 .f32) (harg8 : arg8.IsWhole)
    (arg9 : Memref sig .tc .vmem S64x2 .f32) (harg9 : arg9.IsWhole)
    (arg10 : Memref sig .tc .vmem S64x64 .f32) (harg10 : arg10.IsWhole)
    (arg11 : Memref sig .tc .vmem S64x64 .f32) (harg11 : arg11.IsWhole)
    (arg12 : Memref sig .tc .vmem S64x128 .f32) (harg12 : arg12.IsWhole)
    (arg13 : Memref sig .tc .vmem S128x64x64 .f32) (harg13 : arg13.IsWhole)
    (arg14 : Memref sig .tc .vmem S2x8192x384 .f32) (harg14 : arg14.IsWhole)
    (v5 : BitVec 32) (X2 : BufTy.Contents (Elt F) arg2.view.ty) (X4 : BufTy.Contents (Elt F) arg4.view.ty) (X6 : BufTy.Contents (Elt F) arg6.view.ty)
    (X14 : BufTy.Contents (Elt F) arg14.view.ty)

/-- What trip `k` hands on. -/
theorem tripR_eq (k : Fin k0_t1_loop.trips) (acc : Vec F S64x64 .f32 × Vec F S64x64 .f32 × Vec F S64x128 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 k acc
      = (k0_pay12 acc.1 (xAt (arg2.view.read (Elt F) X2) k.val), k0_pay13 acc.1 acc.2.1 (xAt (arg2.view.read (Elt F) X2) k.val),
          cell (arg4.view.read (Elt F) X4) (arg6.view.read (Elt F) X6) (pAt (arg14.view.read (Elt F) X14) (((i 1).val + 1) % 2) k.val) acc.2.2) := by
  have e2 := load_row arg2.view X2 k (k0_off1_inb k)
  have e14 := load_proj arg14.view X14 i k (k0_off2_inb i k)
  have e4 := View.readAt_full arg4.view X4 (off := ![0, 0]) inb_S128x384_S128x384_0_0
  have e6 := View.readAt_full arg6.view X6 (off := ![0, 0]) inb_S1x128_S1x128_0_0
  unfold tripR_k0_t1 trip_k0_t1 cell
  rw [← e2, ← e14, ← e4, ← e6]
  rfl

/-- What trip `k` stores. -/
theorem tripL_eq (k : Fin k0_t1_loop.trips) (acc : Vec F S64x64 .f32 × Vec F S64x64 .f32 × Vec F S64x128 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 k acc
      = [⟨Rect.unit (s := S128x64x64) (k0_off1 k) S1x64x64.size (k0_off1_inb k), k0_pay14 acc.1 acc.2.1 (xAt (arg2.view.read (Elt F) X2) k.val)⟩] := by
  have e2 := load_row arg2.view X2 k (k0_off1_inb k)
  unfold tripL_k0_t1 trip_k0_t1
  rw [← e2]

/-- What the loop carries before trip `n`. -/
theorem st_fst (e : Vec F S64x64 .f32 × Vec F S64x64 .f32) (h : Vec F S64x128 .f32) (n : ℕ) (hn : n ≤ 128) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 (e.1, e.2, h) n).1
      = ((eRun (xAt (arg2.view.read (Elt F) X2)) e n).1, (eRun (xAt (arg2.view.read (Elt F) X2)) e n).2,
          hRun (arg4.view.read (Elt F) X4) (arg6.view.read (Elt F) X6) (pAt (arg14.view.read (Elt F) X14) (((i 1).val + 1) % 2)) h n) := by
  induction n with
  | zero => rfl
  | succ n ih =>
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 (e.1, e.2, h) ⟨n, trips_eq ▸ hn⟩
    rw [congrArg Prod.fst hs]
    dsimp only
    rw [tripR_eq, ih (by omega)]
    rfl

/-- What the block of smoothed rows reads as before trip `n`: the rows of the trips made are smoothed, the others as they were. -/
theorem st_snd (v : View sig .tc .vmem S128x64x64 .f32) (G : v.ty.Contents (Elt F)) (e : Vec F S64x64 .f32 × Vec F S64x64 .f32) (h : Vec F S64x128 .f32)
    (n : ℕ) (hn : n ≤ 128) (y : S128x64x64.Idx) :
    v.read (Elt F) (v.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 (e.1, e.2, h) n).2) y
      = if (y 0).val < n then smooth (xAt (arg2.view.read (Elt F) X2)) e y else v.read (Elt F) G y := by
  induction n with
  | zero => rfl
  | succ n ih =>
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 (e.1, e.2, h) ⟨n, trips_eq ▸ hn⟩
    rw [congrArg Prod.snd hs]
    dsimp only
    rw [tripL_eq, st_fst (hn := by omega), List.singleton_append, View.read_writes_cons_put _ _ _ _ _ (off1_eq ⟨n, trips_eq ▸ hn⟩)]
    unfold VecWindow.put
    have y1 : (y 1).val < 64 := (y 1).isLt
    have y2 : (y 2).val < 64 := (y 2).isLt
    by_cases hy : (y 0).val = n
    · have hb : ∀ a, (![n, 0, 0] : Fin 3 → ℕ) a ≤ (y a).val ∧ (y a).val < (![n, 0, 0] : Fin 3 → ℕ) a + S1x64x64.size a := fun a => by
        match a with
        | ⟨0, _⟩ => exact ⟨hy.ge, by show (y 0).val < n + 1; omega⟩
        | ⟨1, _⟩ => exact ⟨Nat.zero_le _, by show (y 1).val < 0 + 64; omega⟩
        | ⟨2, _⟩ => exact ⟨Nat.zero_le _, by show (y 2).val < 0 + 64; omega⟩
      rw [dif_pos hb, if_pos (by omega)]
      unfold smooth
      subst hy
      refine congrArg _ (funext fun a => Fin.ext ?_)
      match a with
      | ⟨0, _⟩ => show (y 0).val - (y 0).val = 0; omega
      | ⟨1, _⟩ => show (y 1).val - 0 = (y 1).val; omega
      | ⟨2, _⟩ => show (y 2).val - 0 = (y 2).val; omega
    · have hb : ¬ ∀ a, (![n, 0, 0] : Fin 3 → ℕ) a ≤ (y a).val ∧ (y a).val < (![n, 0, 0] : Fin 3 → ℕ) a + S1x64x64.size a := fun hall => by
        have h1 : n ≤ (y 0).val := (hall 0).1
        have h2 : (y 0).val < n + 1 := (hall 0).2
        omega
      rw [dif_neg hb, ih (by omega)]
      by_cases h' : (y 0).val < n
      · rw [if_pos h', if_pos (by omega)]
      · rw [if_neg h', if_neg (by omega)]

/-- After the loop the whole block is smoothed rows. -/
theorem st_snd_all (v : View sig .tc .vmem S128x64x64 .f32) (G : v.ty.Contents (Elt F)) (e : Vec F S64x64 .f32 × Vec F S64x64 .f32) (h : Vec F S64x128 .f32) :
    v.read (Elt F) (v.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v5 X2 X4 X6 X14 (e.1, e.2, h) 128).2)
      = smooth (xAt (arg2.view.read (Elt F) X2)) e := by
  funext y
  rw [st_snd (hn := le_rfl), if_pos (show (y 0).val < 128 from (y 0).isLt)]

end

end Cert.KernelIdeal.Hand

end
-- ==== Proof.BodyI.lean ====
module

public import proofs.«01_k».proof.Proof.Gen.KernelIdeal.Frame
public import proofs.«01_k».proof.Proof.TripI

/- The kernel body at one grid point: what it needs of its operands and scratch, and what it leaves there. -/

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of its walk over the time blocks. -/
abbrev AtFirst (i : grid0.Coords) : Prop := Scalar.cmpi .ne (Scalar.extui (Scalar.cmpi .eq (BitVec.ofNat 32 (i 1).val) 0#32)) 0#32 = 1#1

/-- The point has a block of input to project. -/
abbrev AtBlock (i : grid0.Coords) : Prop := Scalar.cmpi .ne (Scalar.extui (Scalar.cmpi .slt (BitVec.ofNat 32 (i 1).val) 32#32)) 0#32 = 1#1

/-- The slot a point stores its projections to. -/
theorem off3_eq (i : grid0.Coords) : k0_off3 i = ![(i 1).val % 2, 0, 0] := by
  have h : ∀ a : Fin 33, (Scalar.indexCast (Scalar.remsi (BitVec.ofNat 32 a.val) 2#32)).toNat = a.val % 2 := by decide
  show ![_, 0, 0] = _
  rw [h (i 1)]

/-- A cast of an array to its own shape changes nothing. -/
theorem pay6_eq (v : Vec F S64x64 .f32) : k0_pay6 v = v := funext fun i => congrArg v (Shape.reshapeEquiv_self _ i)

/-- Storing the second average reshapes it to its own shape. -/
theorem pay7_eq (v : Vec F S64x64 .f32) : k0_pay7 v = v := funext fun i => congrArg v (Shape.reshapeEquiv_self _ i)

/-- Storing the hidden state reshapes it to its own shape. -/
theorem pay8_eq (v : Vec F S64x128 .f32) : k0_pay8 v = v := funext fun i => congrArg v (Shape.reshapeEquiv_self _ i)

/-- A block of projections put in slot `s` is read there row by row. -/
theorem pAt_put (d : Vec F S2x8192x384 .f32) (s : ℕ) (hs : s < 2) (q : Vec F S1x8192x384 .f32) (k : ℕ) :
    pAt (VecWindow.put (s := S2x8192x384) d ![s, 0, 0] S1x8192x384.size q) s k = qAt q k := by
  funext j
  have j1 : (j 1).val < 64 := (j 1).isLt
  have j2 : (j 2).val < 384 := (j 2).isLt
  have hb : ∀ a, (![s, 0, 0] : Fin 3 → ℕ) a ≤ ((ix3 (Fin.ofNat 2 s) (Fin.ofNat 8192 (64 * k + (j 1).val)) (j 2) : S2x8192x384.Idx) a).val
      ∧ ((ix3 (Fin.ofNat 2 s) (Fin.ofNat 8192 (64 * k + (j 1).val)) (j 2) : S2x8192x384.Idx) a).val < (![s, 0, 0] : Fin 3 → ℕ) a + S1x8192x384.size a := fun a => by
    match a with
    | ⟨0, _⟩ => show s ≤ s % 2 ∧ s % 2 < s + 1; omega
    | ⟨1, _⟩ => show 0 ≤ (64 * k + (j 1).val) % 8192 ∧ (64 * k + (j 1).val) % 8192 < 0 + 8192; omega
    | ⟨2, _⟩ => show 0 ≤ (j 2).val ∧ (j 2).val < 0 + 384; omega
  refine (dif_pos hb).trans (congrArg q (funext fun a => Fin.ext ?_))
  match a with
  | ⟨0, _⟩ => show s % 2 - s = 0; omega
  | ⟨1, _⟩ => show (64 * k + (j 1).val) % 8192 - 0 = (64 * k + (j 1).val) % 8192; omega
  | ⟨2, _⟩ => show (j 2).val - 0 = (j 2).val; omega

/-- The scratch with anything in it. -/
def ScrAny (c : Dev nD) (arg10 arg11 : Memref sig .tc .vmem S64x64 .f32) (arg12 : Memref sig .tc .vmem S64x128 .f32) (arg13 : Memref sig .tc .vmem S128x64x64 .f32)
    (arg14 : Memref sig .tc .vmem S2x8192x384 .f32) : sProp 𝕄 :=
  iprop((∃ d, owns (c : Thread nD τ) arg10 fullShare d) ∗ (∃ d, owns (c : Thread nD τ) arg11 fullShare d) ∗ (∃ d, owns (c : Thread nD τ) arg12 fullShare d)
    ∗ (∃ d, owns (c : Thread nD τ) arg13 fullShare d) ∗ (∃ d, owns (c : Thread nD τ) arg14 fullShare d))

/-- The scratch between two points: the averages `e`, the hidden state `h`, and in slot `s` the projections `q`. -/
def Scr (c : Dev nD) (arg10 arg11 : Memref sig .tc .vmem S64x64 .f32) (arg12 : Memref sig .tc .vmem S64x128 .f32) (arg13 : Memref sig .tc .vmem S128x64x64 .f32)
    (arg14 : Memref sig .tc .vmem S2x8192x384 .f32) (e : Vec F S64x64 .f32 × Vec F S64x64 .f32) (h : Vec F S64x128 .f32) (s : ℕ) (q : Vec F S1x8192x384 .f32) : sProp 𝕄 :=
  iprop(owns (c : Thread nD τ) arg10 fullShare e.1 ∗ owns (c : Thread nD τ) arg11 fullShare e.2 ∗ owns (c : Thread nD τ) arg12 fullShare h
    ∗ (∃ d, owns (c : Thread nD τ) arg13 fullShare d) ∗ (∃ d, ⌜∀ k, k < 128 → pAt d s k = qAt q k⌝ ∗ owns (c : Thread nD τ) arg14 fullShare d))

section
variable (c : Dev nD) (i : grid0.Coords)
    (arg2 : Memref sig .tc .vmem S128x64x64 .f32) (harg2 : arg2.IsWhole)
    (arg3 : Memref sig .tc .vmem S64x384 .f32) (harg3 : arg3.IsWhole)
    (arg4 : Memref sig .tc .vmem S128x384 .f32) (harg4 : arg4.IsWhole)
    (arg5 : Memref sig .tc .vmem S1x384 .f32) (harg5 : arg5.IsWhole)
    (arg6 : Memref sig .tc .vmem S1x128 .f32) (harg6 : arg6.IsWhole)
    (arg7 : Memref sig .tc .vmem S128x2 .f32) (harg7 : arg7.IsWhole)
    (arg8 : Memref sig .tc .vmem S1x2 .f32) (harg8 : arg8.IsWhole)
    (arg9 : Memref sig .tc .vmem S64x2 .f32) (harg9 : arg9.IsWhole)
    (arg10 : Memref sig .tc .vmem S64x64 .f32) (harg10 : arg10.IsWhole)
    (arg11 : Memref sig .tc .vmem S64x64 .f32) (harg11 : arg11.IsWhole)
    (arg12 : Memref sig .tc .vmem S64x128 .f32) (harg12 : arg12.IsWhole)
    (arg13 : Memref sig .tc .vmem S128x64x64 .f32) (harg13 : arg13.IsWhole)
    (arg14 : Memref sig .tc .vmem S2x8192x384 .f32) (harg14 : arg14.IsWhole)
    (x : Vec F S128x64x64 .f32) (wih : Vec F S64x384 .f32) (whh : Vec F S128x384 .f32) (bp : Vec F S1x384 .f32) (bn : Vec F S1x128 .f32)
    (wfc : Vec F S128x2 .f32) (bfc : Vec F S1x2 .f32)

/-- The body at the first point of its walk: whatever the scratch held, the averages start at the first row and the hidden state is left at zeros. -/
theorem sound_first (h1 : AtFirst i) (h2 : AtBlock i) (h4 : k0_cond4 i = 1#1) (h5 : ¬ k0_cond5 i = 1#1)
    (K : PUnit → sProp 𝕄) :
    iprop(owns (c : Thread nD τ) arg2 fullShare x ∗ owns (c : Thread nD τ) arg3 fullShare wih ∗ owns (c : Thread nD τ) arg4 fullShare whh
        ∗ owns (c : Thread nD τ) arg5 fullShare bp ∗ owns (c : Thread nD τ) arg6 fullShare bn
        ∗ ScrAny c arg10 arg11 arg12 arg13 arg14
        ∗ (iprop(owns (c : Thread nD τ) arg2 fullShare x ∗ owns (c : Thread nD τ) arg3 fullShare wih ∗ owns (c : Thread nD τ) arg4 fullShare whh
            ∗ owns (c : Thread nD τ) arg5 fullShare bp ∗ owns (c : Thread nD τ) arg6 fullShare bn
            ∗ Scr c arg10 arg11 arg12 arg13 arg14 (eRun (xAt x) (k0_pay3 (xAt x 0), k0_pay4 (xAt x 0)) 128) k0_pay9 ((i 1).val % 2) (k0_pay10 (smooth (xAt x) (k0_pay3 (xAt x 0), k0_pay4 (xAt x 0))) wih bp)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold Scr ScrAny owns
  iintro ⟨⟨%f2, %hf2, H2⟩, ⟨%f3, %hf3, H3⟩, ⟨%f4, %hf4, H4⟩, ⟨%f5, %hf5, H5⟩, ⟨%f6, %hf6, H6⟩, ⟨⟨%d10, %f10, -, H10⟩, ⟨%d11, %f11, -, H11⟩, ⟨%d12, %f12, -, H12⟩, ⟨%d13, %f13, -, H13⟩, ⟨%d14, %f14, -, H14⟩⟩, Hk⟩
  sl_exec (disch := first | exact h1 | exact h2 | exact h4 | exact h5)
  have ht : Scf.trips k0_t1_loop.lb k0_t1_loop.ub k0_t1_loop.st = 128 := trips_eq
  have e2 : arg2.view.readAt (Elt F) (Rect.unit (s := S128x64x64) ![0, 0, 0] S1x64x64.size inb_S128x64x64_S1x64x64_0_0_0).toLoadRect f2 = xAt x 0 := by
    rw [View.readAt_unit arg2.view f2 inb_S128x64x64_S1x64x64_0_0_0 rfl inb_S128x64x64_S1x64x64_0_0_0, hf2]
    exact window_row x 0 (by omega) _
  have e10 : sound_first.sl.v6 c arg2 arg10 f2 = k0_pay3 (xAt x 0) := by
    unfold sound_first.sl.v6
    refine (View.readCov_full ..).trans ?_
    rw [e2]
  have e11 : sound_first.sl.v7 c arg2 arg11 f2 = k0_pay4 (xAt x 0) := by
    unfold sound_first.sl.v7
    refine (View.readCov_full ..).trans ?_
    rw [e2]
  have e3 := View.readAt_full arg3.view f3 (off := ![0, 0]) inb_S64x384_S64x384_0_0
  have e5 := View.readAt_full arg5.view f5 (off := ![0, 0]) inb_S1x384_S1x384_0_0
  rw [hf3] at e3; rw [hf5] at e5
  have hs := st_fst c i arg2 harg2 arg3 harg3 arg4 harg4 arg5 harg5 arg6 harg6 arg7 harg7 arg8 harg8 arg9 harg9 arg10 harg10 arg11 harg11 arg12 harg12 arg13 harg13 arg14 harg14 (sound_first.sl.v5 i) f2 f4 f6 f14 (k0_pay3 (xAt x 0), k0_pay4 (xAt x 0)) (sound_first.sl.v8 c arg12) 128 le_rfl
  have hx := st_snd_all c i arg2 harg2 arg3 harg3 arg4 harg4 arg5 harg5 arg6 harg6 arg7 harg7 arg8 harg8 arg9 harg9 arg10 harg10 arg11 harg11 arg12 harg12 arg13 harg13 arg14 harg14 (sound_first.sl.v5 i) f2 f4 f6 f14 arg13.view f13 (k0_pay3 (xAt x 0), k0_pay4 (xAt x 0)) (sound_first.sl.v8 c arg12)
  rw [hf2] at hs hx
  have e26 : sound_first.sl.v26 c i arg2 harg2 arg3 harg3 arg4 harg4 arg5 harg5 arg6 harg6 arg7 harg7 arg8 harg8 arg9 harg9 arg10 harg10 arg11 harg11 arg12 harg12 arg13 harg13 arg14 harg14 f2 f4 f6 f13 f14 = smooth (xAt x) (k0_pay3 (xAt x 0), k0_pay4 (xAt x 0)) := by
    unfold sound_first.sl.v26
    rw [View.readAt_full, ht, e10, e11]
    exact hx
  rw [e10, e11, ht]
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H10]
  · iexists _; isplitr; swap; · iexact H10
    ipureintro; exact (View.read_writes_full ..).trans ((pay6_eq _).trans (congrArg (fun r => r.1) hs))
  isplitl [H11]
  · iexists _; isplitr; swap; · iexact H11
    ipureintro; exact (View.read_writes_full ..).trans ((pay7_eq _).trans (congrArg (fun r => r.2.1) hs))
  isplitl [H12]
  · iexists _; isplitr; swap; · iexact H12
    ipureintro; exact View.read_writes_full ..
  isplitl [H13]
  · iexists _, _; isplitr; swap; · iexact H13
    ipureintro; rfl
  iexists _; isplitr; swap
  · iexists _; isplitr; swap; · iexact H14
    ipureintro; rfl
  ipureintro
  intro k hk
  rw [View.read_writes_cons_put _ _ _ _ _ (off3_eq i)]
  refine (pAt_put _ _ (by omega) _ k).trans ?_
  rw [e26, e3, e5]

/-- The body at a point past the first of its walk and before the last. -/
theorem sound_mid (h1 : ¬ AtFirst i) (h2 : AtBlock i) (h4 : k0_cond4 i = 1#1) (h5 : ¬ k0_cond5 i = 1#1)
    (e : Vec F S64x64 .f32 × Vec F S64x64 .f32) (h : Vec F S64x128 .f32) (q : Vec F S1x8192x384 .f32) (K : PUnit → sProp 𝕄) :
    iprop(owns (c : Thread nD τ) arg2 fullShare x ∗ owns (c : Thread nD τ) arg3 fullShare wih ∗ owns (c : Thread nD τ) arg4 fullShare whh
        ∗ owns (c : Thread nD τ) arg5 fullShare bp ∗ owns (c : Thread nD τ) arg6 fullShare bn
        ∗ Scr c arg10 arg11 arg12 arg13 arg14 e h (((i 1).val + 1) % 2) q
        ∗ (iprop(owns (c : Thread nD τ) arg2 fullShare x ∗ owns (c : Thread nD τ) arg3 fullShare wih ∗ owns (c : Thread nD τ) arg4 fullShare whh
            ∗ owns (c : Thread nD τ) arg5 fullShare bp ∗ owns (c : Thread nD τ) arg6 fullShare bn
            ∗ Scr c arg10 arg11 arg12 arg13 arg14 (eRun (xAt x) e 128) (hRun whh bn (qAt q) h 128) ((i 1).val % 2) (k0_pay10 (smooth (xAt x) e) wih bp)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold Scr owns
  iintro ⟨⟨%f2, %hf2, H2⟩, ⟨%f3, %hf3, H3⟩, ⟨%f4, %hf4, H4⟩, ⟨%f5, %hf5, H5⟩, ⟨%f6, %hf6, H6⟩, ⟨⟨%f10, %hf10, H10⟩, ⟨%f11, %hf11, H11⟩, ⟨%f12, %hf12, H12⟩, ⟨%d13, %f13, -, H13⟩, ⟨%d14, %hq, %f14, %hf14, H14⟩⟩, Hk⟩
  sl_exec (disch := first | exact h1 | exact h2 | exact h4 | exact h5)
  have ht : Scf.trips k0_t1_loop.lb k0_t1_loop.ub k0_t1_loop.st = 128 := trips_eq
  have e10 := View.readAt_full arg10.view f10 (off := ![0, 0]) inb_S64x64_S64x64_0_0
  have e11 := View.readAt_full arg11.view f11 (off := ![0, 0]) inb_S64x64_S64x64_0_0
  have e12 := View.readAt_full arg12.view f12 (off := ![0, 0]) inb_S64x128_S64x128_0_0
  have e3 := View.readAt_full arg3.view f3 (off := ![0, 0]) inb_S64x384_S64x384_0_0
  have e5 := View.readAt_full arg5.view f5 (off := ![0, 0]) inb_S1x384_S1x384_0_0
  rw [hf10] at e10; rw [hf11] at e11; rw [hf12] at e12; rw [hf3] at e3; rw [hf5] at e5
  have hs := st_fst c i arg2 harg2 arg3 harg3 arg4 harg4 arg5 harg5 arg6 harg6 arg7 harg7 arg8 harg8 arg9 harg9 arg10 harg10 arg11 harg11 arg12 harg12 arg13 harg13 arg14 harg14 (sound_mid.sl.v5 i) f2 f4 f6 f14 e h 128 le_rfl
  have hx := st_snd_all c i arg2 harg2 arg3 harg3 arg4 harg4 arg5 harg5 arg6 harg6 arg7 harg7 arg8 harg8 arg9 harg9 arg10 harg10 arg11 harg11 arg12 harg12 arg13 harg13 arg14 harg14 (sound_mid.sl.v5 i) f2 f4 f6 f14 arg13.view f13 e h
  rw [hf2, hf4, hf6, hf14, hRun_congr whh bn h hq] at hs
  rw [hf2] at hx
  have e26 : sound_mid.sl.v26 c i arg2 harg2 arg3 harg3 arg4 harg4 arg5 harg5 arg6 harg6 arg7 harg7 arg8 harg8 arg9 harg9 arg10 harg10 arg11 harg11 arg12 harg12 arg13 harg13 arg14 harg14 f2 f4 f6 f10 f11 f12 f13 f14 = smooth (xAt x) e := by
    unfold sound_mid.sl.v26
    rw [View.readAt_full, ht, e10, e11, e12]
    exact hx
  rw [e10, e11, e12, ht]
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H10]
  · iexists _; isplitr; swap; · iexact H10
    ipureintro; exact (View.read_writes_full ..).trans ((pay6_eq _).trans (congrArg (fun r => r.1) hs))
  isplitl [H11]
  · iexists _; isplitr; swap; · iexact H11
    ipureintro; exact (View.read_writes_full ..).trans ((pay7_eq _).trans (congrArg (fun r => r.2.1) hs))
  isplitl [H12]
  · iexists _; isplitr; swap; · iexact H12
    ipureintro; exact (View.read_writes_full ..).trans ((pay8_eq _).trans (congrArg (fun r => r.2.2) hs))
  isplitl [H13]
  · iexists _, _; isplitr; swap; · iexact H13
    ipureintro; rfl
  iexists _; isplitr; swap
  · iexists _; isplitr; swap; · iexact H14
    ipureintro; rfl
  ipureintro
  intro k hk
  rw [View.read_writes_cons_put _ _ _ _ _ (off3_eq i)]
  refine (pAt_put _ _ (by omega) _ k).trans ?_
  rw [e26, e3, e5]

/-- The body at the last point of its walk: it computes the block of results. -/
theorem sound_last (h1 : ¬ AtFirst i) (h2 : ¬ AtBlock i) (h4 : ¬ k0_cond4 i = 1#1) (h5 : k0_cond5 i = 1#1)
    (e : Vec F S64x64 .f32 × Vec F S64x64 .f32) (h : Vec F S64x128 .f32) (q : Vec F S1x8192x384 .f32) (K : PUnit → sProp 𝕄) :
    iprop(owns (c : Thread nD τ) arg2 fullShare x ∗ owns (c : Thread nD τ) arg3 fullShare wih ∗ owns (c : Thread nD τ) arg4 fullShare whh
        ∗ owns (c : Thread nD τ) arg5 fullShare bp ∗ owns (c : Thread nD τ) arg6 fullShare bn
        ∗ owns (c : Thread nD τ) arg7 fullShare wfc ∗ owns (c : Thread nD τ) arg8 fullShare bfc ∗ (∃ d, owns (c : Thread nD τ) arg9 fullShare d)
        ∗ Scr c arg10 arg11 arg12 arg13 arg14 e h (((i 1).val + 1) % 2) q
        ∗ (iprop(owns (c : Thread nD τ) arg2 fullShare x ∗ owns (c : Thread nD τ) arg3 fullShare wih ∗ owns (c : Thread nD τ) arg4 fullShare whh
            ∗ owns (c : Thread nD τ) arg5 fullShare bp ∗ owns (c : Thread nD τ) arg6 fullShare bn
            ∗ owns (c : Thread nD τ) arg7 fullShare wfc ∗ owns (c : Thread nD τ) arg8 fullShare bfc
            ∗ owns (c : Thread nD τ) arg9 fullShare (k0_pay11 e.1 e.2 (hRun whh bn (qAt q) h 128) wfc bfc)
            ∗ ScrAny c arg10 arg11 arg12 arg13 arg14) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold Scr ScrAny owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨⟨%f10, %hf10, H10⟩, ⟨%f11, %hf11, H11⟩, ⟨%f12, %hf12, H12⟩, ⟨%d13, %f13, -, H13⟩, ⟨%d14, %hq, %f14, %hf14, H14⟩⟩, Hk⟩
  sl_exec (disch := first | exact h1 | exact h2 | exact h4 | exact h5)
  have ht : Scf.trips k0_t1_loop.lb k0_t1_loop.ub k0_t1_loop.st = 128 := trips_eq
  have e10 := View.readAt_full arg10.view f10 (off := ![0, 0]) inb_S64x64_S64x64_0_0
  have e11 := View.readAt_full arg11.view f11 (off := ![0, 0]) inb_S64x64_S64x64_0_0
  have e12 := View.readAt_full arg12.view f12 (off := ![0, 0]) inb_S64x128_S64x128_0_0
  have e7 := View.readAt_full arg7.view f7 (off := ![0, 0]) inb_S128x2_S128x2_0_0
  have e8 := View.readAt_full arg8.view f8 (off := ![0, 0]) inb_S1x2_S1x2_0_0
  rw [hf10] at e10; rw [hf11] at e11; rw [hf12] at e12; rw [hf7] at e7; rw [hf8] at e8
  have hs := st_fst c i arg2 harg2 arg3 harg3 arg4 harg4 arg5 harg5 arg6 harg6 arg7 harg7 arg8 harg8 arg9 harg9 arg10 harg10 arg11 harg11 arg12 harg12 arg13 harg13 arg14 harg14 (sound_last.sl.v5 i) f2 f4 f6 f14 e h 128 le_rfl
  rw [hf2, hf4, hf6, hf14, hRun_congr whh bn h hq] at hs
  rw [e10, e11, e12, ht, e7, e8]
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro
    exact (View.read_writes_full ..).trans (congrArg (fun r => k0_pay11 e.1 e.2 r.2.2 wfc bfc) hs)
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end

end Cert.KernelIdeal.Hand

end
-- ==== Proof.LaunchI.lean ====
module

public import proofs.«01_k».proof.Proof.BodyI
public import Idealize.ShloMosaic.Lib.Claim

/- The launch: what the pipeline holds at every grid point, and what the run of @main ends with. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t₀ : Fin cfg0.N := ⟨0, by decide⟩

/-- The input weights as every point finds them. -/
def kWih (c : Dev nD) : Vec F S64x384 .f32 := iblk m c 1 t₀

/-- The recurrent weights of the three gates. -/
def kWhh (c : Dev nD) : Vec F S128x384 .f32 := iblk m c 2 t₀

/-- The bias added to the projections. -/
def kBp (c : Dev nD) : Vec F S1x384 .f32 := iblk m c 3 t₀

/-- The recurrent bias of the candidate. -/
def kBn (c : Dev nD) : Vec F S1x128 .f32 := iblk m c 4 t₀

/-- The weights of the last layer. -/
def kWfc (c : Dev nD) : Vec F S128x2 .f32 := iblk m c 5 t₀

/-- The bias of the last layer. -/
def kBfc (c : Dev nD) : Vec F S1x2 .f32 := iblk m c 6 t₀

/-- Every grid point finds the same input weights. -/
theorem iblk1 (c : Dev nD) (t : Fin cfg0.N) : iblk m c 1 t = kWih m c := rfl

/-- Every grid point finds the same recurrent weights. -/
theorem iblk2 (c : Dev nD) (t : Fin cfg0.N) : iblk m c 2 t = kWhh m c := rfl

/-- Every grid point finds the same bias of the projections. -/
theorem iblk3 (c : Dev nD) (t : Fin cfg0.N) : iblk m c 3 t = kBp m c := rfl

/-- Every grid point finds the same bias of the candidate. -/
theorem iblk4 (c : Dev nD) (t : Fin cfg0.N) : iblk m c 4 t = kBn m c := rfl

/-- Every grid point finds the same weights of the last layer. -/
theorem iblk5 (c : Dev nD) (t : Fin cfg0.N) : iblk m c 5 t = kWfc m c := rfl

/-- Every grid point finds the same bias of the last layer. -/
theorem iblk6 (c : Dev nD) (t : Fin cfg0.N) : iblk m c 6 t = kBfc m c := rfl

/-- Block `tb` of the input in walk `g` (the walk's last point finds block 31 again). -/
def kX (c : Dev nD) (g tb : ℕ) : Vec F S128x64x64 .f32 :=
  iblk m c 0 ⟨(33 * g + min tb 31) % 66, by show _ < 66; omega⟩

/-- The results of walk `g`. -/
def kOut (c : Dev nD) (g : ℕ) : Vec F S64x2 .f32 :=
  outB (kWih m c) (kBp m c) (kWhh m c) (kBn m c) (kWfc m c) (kBfc m c) (kX m c g)

/-- The scratch before grid point `n`: at the first point of a walk anything, later what the points before it left. -/
def PhiS (c : Dev nD) (n : ℕ) : sProp 𝕄 :=
  if n % 33 = 0 then
    ScrAny c (Memref.whole cc0_scratch0) (Memref.whole cc0_scratch1) (Memref.whole cc0_scratch2) (Memref.whole cc0_scratch3) (Memref.whole cc0_scratch4)
  else
    Scr c (Memref.whole cc0_scratch0) (Memref.whole cc0_scratch1) (Memref.whole cc0_scratch2) (Memref.whole cc0_scratch3) (Memref.whole cc0_scratch4)
      (emas (kX m c (n / 33)) (128 * (n % 33)))
      (hid (kWih m c) (kBp m c) (kWhh m c) (kBn m c) (kX m c (n / 33)) (128 * (n % 33 - 1)))
      ((n % 33 + 1) % 2) (proj (kWih m c) (kBp m c) (kX m c (n / 33)) (n % 33 - 1))

/-- The run's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => kOut m c (t.val / 33)
  Φ t := iprop(PhiS m c t.val ∗ ∃ r, prngReg c r)
  q _ := fullShare
  owed _ := 0

/-- Each array of the pipeline begins as the host lines leave it. -/
theorem A_eq (c : Dev nD) (w : Fin cfg0.W) : (dats m 0 c).A w = V m c (Pipeline.arrRef spec0 w) := by dsimp only [dats]

/-- The body leaves input 0 as it found it. -/
theorem after0_0 (c : Dev nD) (t : Fin cfg0.N) : (dats m 0 c).after 0 t = iblk m c 0 t := by dsimp only [dats]

/-- The body leaves input 1 as it found it. -/
theorem after0_1 (c : Dev nD) (t : Fin cfg0.N) : (dats m 0 c).after 1 t = iblk m c 1 t := by dsimp only [dats]

/-- The body leaves input 2 as it found it. -/
theorem after0_2 (c : Dev nD) (t : Fin cfg0.N) : (dats m 0 c).after 2 t = iblk m c 2 t := by dsimp only [dats]

/-- The body leaves input 3 as it found it. -/
theorem after0_3 (c : Dev nD) (t : Fin cfg0.N) : (dats m 0 c).after 3 t = iblk m c 3 t := by dsimp only [dats]

/-- The body leaves input 4 as it found it. -/
theorem after0_4 (c : Dev nD) (t : Fin cfg0.N) : (dats m 0 c).after 4 t = iblk m c 4 t := by dsimp only [dats]

/-- The body leaves input 5 as it found it. -/
theorem after0_5 (c : Dev nD) (t : Fin cfg0.N) : (dats m 0 c).after 5 t = iblk m c 5 t := by dsimp only [dats]

/-- The body leaves input 6 as it found it. -/
theorem after0_6 (c : Dev nD) (t : Fin cfg0.N) : (dats m 0 c).after 6 t = iblk m c 6 t := by dsimp only [dats]

/-- The body leaves the walk's results in the output's buffer. -/
theorem after0_7 (c : Dev nD) (t : Fin cfg0.N) : (dats m 0 c).after 7 t = kOut m c (t.val / 33) := by dsimp only [dats]

/-- The body finds input 0's block. -/
theorem before0_0 (c : Dev nD) (t : Fin cfg0.N) (d) : (dats m 0 c).before 0 t d = iblk m c 0 t := before0_0_of m (dats m 0 c) (A_eq m c 0) (after0_0 m c) t d

/-- The body finds input 1's block. -/
theorem before0_1 (c : Dev nD) (t : Fin cfg0.N) (d) : (dats m 0 c).before 1 t d = iblk m c 1 t := before0_1_of m (dats m 0 c) (A_eq m c 1) (after0_1 m c) t d

/-- The body finds input 2's block. -/
theorem before0_2 (c : Dev nD) (t : Fin cfg0.N) (d) : (dats m 0 c).before 2 t d = iblk m c 2 t := before0_2_of m (dats m 0 c) (A_eq m c 2) (after0_2 m c) t d

/-- The body finds input 3's block. -/
theorem before0_3 (c : Dev nD) (t : Fin cfg0.N) (d) : (dats m 0 c).before 3 t d = iblk m c 3 t := before0_3_of m (dats m 0 c) (A_eq m c 3) (after0_3 m c) t d

/-- The body finds input 4's block. -/
theorem before0_4 (c : Dev nD) (t : Fin cfg0.N) (d) : (dats m 0 c).before 4 t d = iblk m c 4 t := before0_4_of m (dats m 0 c) (A_eq m c 4) (after0_4 m c) t d

/-- The body finds input 5's block. -/
theorem before0_5 (c : Dev nD) (t : Fin cfg0.N) (d) : (dats m 0 c).before 5 t d = iblk m c 5 t := before0_5_of m (dats m 0 c) (A_eq m c 5) (after0_5 m c) t d

/-- The body finds input 6's block. -/
theorem before0_6 (c : Dev nD) (t : Fin cfg0.N) (d) : (dats m 0 c).before 6 t d = iblk m c 6 t := before0_6_of m (dats m 0 c) (A_eq m c 6) (after0_6 m c) t d

/-- The second coordinate of grid point `t` is its place in its walk. -/
theorem coord1 : ∀ t : Fin cfg0.N, (grid0.coords t 1).val = t.val % 33 := by decide

/-- The opening branch is taken at the first place of a walk alone. -/
theorem cond_first : ∀ a : Fin 33, (Scalar.cmpi .ne (Scalar.extui (Scalar.cmpi .eq (BitVec.ofNat 32 a.val) 0#32)) 0#32 = 1#1) ↔ a.val = 0 := by decide

/-- The block branches are taken at every place but the last. -/
theorem cond_block : ∀ a : Fin 33, (Scalar.cmpi .ne (Scalar.extui (Scalar.cmpi .slt (BitVec.ofNat 32 a.val) 32#32)) 0#32 = 1#1) ↔ a.val < 32 := by decide

/-- The closing branch is taken at the last place alone. -/
theorem cond_last : ∀ a : Fin 33, (Scalar.cmpi .ne (Scalar.extui (Scalar.cmpi .eq (BitVec.ofNat 32 a.val) 32#32)) 0#32 = 1#1) ↔ a.val = 32 := by decide

/-- The opening branch is taken at the first point of a walk. -/
theorem atFirst_iff (t : Fin cfg0.N) : AtFirst (grid0.coords t) ↔ t.val % 33 = 0 := coord1 t ▸ cond_first (grid0.coords t 1)

/-- The smoothing and projecting branch is taken before the last point of a walk. -/
theorem atBlock_iff (t : Fin cfg0.N) : AtBlock (grid0.coords t) ↔ t.val % 33 < 32 := coord1 t ▸ cond_block (grid0.coords t 1)

/-- The same for the fourth condition as it is printed. -/
theorem cond4_iff (t : Fin cfg0.N) : k0_cond4 (grid0.coords t) = 1#1 ↔ t.val % 33 < 32 := coord1 t ▸ cond_block (grid0.coords t 1)

/-- The fifth condition as it is printed holds at the last point of a walk. -/
theorem cond5_iff (t : Fin cfg0.N) : k0_cond5 (grid0.coords t) = 1#1 ↔ t.val % 33 = 32 := coord1 t ▸ cond_last (grid0.coords t 1)

/-- The output's buffer after the body: the results at the last point of a walk, untouched before. -/
def Q7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- Before the last point of a walk the output's buffer stays as it was. -/
theorem Q7_idle (c : Dev nD) (t : Fin cfg0.N) (h : t.val % 33 ≠ 32) :
    Q7 m c t = iprop(∃ d, owns (c : Thread nD τ) (st0_7 t) fullShare ((dats m 0 c).before 7 t d)) := by
  have h1 : cfg0.idle 7 (cfg0.grid.coords t) = true := by
    show (!(k0_cond5 (grid0.coords t) == 1#1)) = true
    rw [Bool.not_eq_true', beq_eq_false_iff_ne]
    exact fun h' => h ((cond5_iff t).1 h')
  have h2 : (cfg0.win 7).flush t = false := Bool.eq_false_iff.2 fun h' => h ((flush0_7 t).1 h')
  unfold Q7
  rw [h1, h2]

/-- At the last point of a walk the output's buffer holds the walk's results. -/
theorem Q7_last (c : Dev nD) (t : Fin cfg0.N) (h : t.val % 33 = 32) :
    Q7 m c t = owns (c : Thread nD τ) (st0_7 t) fullShare (kOut m c (t.val / 33)) := by
  have h1 : cfg0.idle 7 (cfg0.grid.coords t) = false := by
    show (!(k0_cond5 (grid0.coords t) == 1#1)) = false
    rw [(cond5_iff t).2 h]; rfl
  unfold Q7
  rw [h1]
  exact congrArg (fun v => (owns (c : Thread nD τ) (st0_7 t) fullShare v : sProp 𝕄)) (after0_7 m c t)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ Q7 m c t)

/-- The invariant before grid point `t`. -/
theorem Phi_pre (c : Dev nD) (t : Fin cfg0.N) : (dats m 0 c).Φ t.castSucc = iprop(PhiS m c t.val ∗ ∃ r, prngReg c r) := by
  dsimp only [dats]
  exact congrArg (fun n => iprop(PhiS m c n ∗ ∃ r, prngReg c r)) (Fin.val_castSucc t)

/-- The invariant after grid point `t`. -/
theorem Phi_post (c : Dev nD) (t : Fin cfg0.N) : (dats m 0 c).Φ t.succ = iprop(PhiS m c (t.val + 1) ∗ ∃ r, prngReg c r) := by
  dsimp only [dats]
  exact congrArg (fun n => iprop(PhiS m c n ∗ ∃ r, prngReg c r)) (Fin.val_succ t)

/-- The input block a point before the last of its walk finds. -/
theorem iblk0 (c : Dev nD) (t : Fin cfg0.N) (h : t.val % 33 < 32) : iblk m c 0 t = kX m c (t.val / 33) (t.val % 33) := by
  have ht : t.val < 66 := t.isLt
  have : t = ⟨(33 * (t.val / 33) + min (t.val % 33) 31) % 66, by show _ < 66; omega⟩ := Fin.ext (by
    show t.val = (33 * (t.val / 33) + min (t.val % 33) 31) % 66
    omega)
  unfold kX
  rw [← this]

/-- The body at the first point of a walk. -/
theorem body_first (c : Dev nD) (t : Fin cfg0.N) (h : t.val % 33 = 0) :
    bodyPre m c t ⊢ wp frame (wpE (defs₀ (F := F)) Variants.none c none) Set.univ (bodyAt0 t) (fun _ => bodyPost m c t) := by
  have ht : t.val < 66 := t.isLt
  unfold bodyPre bodyPost bodyAt0
  simp only [before0_0, before0_1, before0_2, before0_3, before0_4, before0_5, before0_6]
  rw [Phi_pre, Phi_post, show (dats m 0 c).owesAt () t.succ = (dats m 0 c).owesAt () t.castSucc from rfl,
    after0_0, after0_1, after0_2, after0_3, after0_4, after0_5, after0_6, Q7_idle m c t (by omega)]
  rw [iblk0 m c t (by omega)]
  unfold PhiS
  rw [if_pos h, if_neg (show ¬ (t.val + 1) % 33 = 0 by omega), show (t.val + 1) % 33 = 1 by omega, show (t.val + 1) / 33 = t.val / 33 by omega, h]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_first c (grid0.coords t) _ _ _ _ _ _ _ _ _ _ _ _ _ _ _ _ _ _ _ _ _ _ _ _ _ _ (kX m c (t.val / 33) 0) (kWih m c) (kWhh m c) (kBp m c) (kBn m c)
    ((atFirst_iff t).2 h) ((atBlock_iff t).2 (by omega)) ((cond4_iff t).2 (by omega)) (fun h' => by have := (cond5_iff t).1 h'; omega) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  rw [coord1 t, h]
  isplitl [Hs Hr]
  · isplitl [Hs]
    · rw [← emas_block (kX m c (t.val / 33)) 0 (k := 128) le_rfl]
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body at a point inside a walk. -/
theorem body_mid (c : Dev nD) (t : Fin cfg0.N) (h0 : t.val % 33 ≠ 0) (h : t.val % 33 < 32) :
    bodyPre m c t ⊢ wp frame (wpE (defs₀ (F := F)) Variants.none c none) Set.univ (bodyAt0 t) (fun _ => bodyPost m c t) := by
  have ht : t.val < 66 := t.isLt
  unfold bodyPre bodyPost bodyAt0
  simp only [before0_0, before0_1, before0_2, before0_3, before0_4, before0_5, before0_6]
  rw [Phi_pre, Phi_post, show (dats m 0 c).owesAt () t.succ = (dats m 0 c).owesAt () t.castSucc from rfl,
    after0_0, after0_1, after0_2, after0_3, after0_4, after0_5, after0_6, Q7_idle m c t (by omega)]
  rw [iblk0 m c t (by omega)]
  unfold PhiS
  rw [if_neg h0, if_neg (show ¬ (t.val + 1) % 33 = 0 by omega), show (t.val + 1) % 33 = t.val % 33 + 1 by omega, show (t.val + 1) / 33 = t.val / 33 by omega]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_mid c (grid0.coords t) _ _ _ _ _ _ _ _ _ _ _ _ _ _ _ _ _ _ _ _ _ _ _ _ _ _ (kX m c (t.val / 33) (t.val % 33)) (kWih m c) (kWhh m c) (kBp m c) (kBn m c)
    (fun h' => h0 ((atFirst_iff t).1 h')) ((atBlock_iff t).2 h) ((cond4_iff t).2 h) (fun h' => by have := (cond5_iff t).1 h'; omega)
    (emas (kX m c (t.val / 33)) (128 * (t.val % 33))) (hid (kWih m c) (kBp m c) (kWhh m c) (kBn m c) (kX m c (t.val / 33)) (128 * (t.val % 33 - 1)))
    (proj (kWih m c) (kBp m c) (kX m c (t.val / 33)) (t.val % 33 - 1)) _)
  rw [coord1 t]
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hr]
  · isplitl [Hs]
    · rw [show 128 * (t.val % 33 + 1) = 128 * (t.val % 33) + 128 by omega, ← emas_block (kX m c (t.val / 33)) (t.val % 33) (k := 128) le_rfl,
        show t.val % 33 + 1 - 1 = t.val % 33 by omega, show 128 * (t.val % 33) = 128 * (t.val % 33 - 1) + 128 by omega,
        ← hid_block (kWih m c) (kBp m c) (kWhh m c) (kBn m c) (kX m c (t.val / 33)) (t.val % 33 - 1) (k := 128) le_rfl,
        show 128 * (t.val % 33 - 1) + 128 = 128 * (t.val % 33) by omega, show (t.val % 33 + 1 + 1) % 2 = t.val % 33 % 2 by omega]
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body at the last point of a walk. -/
theorem body_last (c : Dev nD) (t : Fin cfg0.N) (h : t.val % 33 = 32) :
    bodyPre m c t ⊢ wp frame (wpE (defs₀ (F := F)) Variants.none c none) Set.univ (bodyAt0 t) (fun _ => bodyPost m c t) := by
  have ht : t.val < 66 := t.isLt
  unfold bodyPre bodyPost bodyAt0
  simp only [before0_0, before0_1, before0_2, before0_3, before0_4, before0_5, before0_6]
  rw [Phi_pre, Phi_post, show (dats m 0 c).owesAt () t.succ = (dats m 0 c).owesAt () t.castSucc from rfl,
    after0_0, after0_1, after0_2, after0_3, after0_4, after0_5, after0_6, Q7_last m c t h]
  unfold PhiS
  rw [if_neg (show ¬ t.val % 33 = 0 by omega), if_pos (show (t.val + 1) % 33 = 0 by omega), h]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_last c (grid0.coords t) _ _ _ _ _ _ _ _ _ _ _ _ _ _ _ _ _ _ _ _ _ _ _ _ _ _ (iblk m c 0 t) (kWih m c) (kWhh m c) (kBp m c) (kBn m c)
    (kWfc m c) (kBfc m c)
    (fun h' => by have := (atFirst_iff t).1 h'; omega) (fun h' => by have := (atBlock_iff t).1 h'; omega) (fun h' => by have := (cond4_iff t).1 h'; omega)
    ((cond5_iff t).2 h) (emas (kX m c (t.val / 33)) (128 * 32)) (hid (kWih m c) (kBp m c) (kWhh m c) (kBn m c) (kX m c (t.val / 33)) (128 * (32 - 1)))
    (proj (kWih m c) (kBp m c) (kX m c (t.val / 33)) (32 - 1)) _)
  rw [coord1 t, h]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [hid_block (kWih m c) (kBp m c) (kWhh m c) (kBn m c) (kX m c (t.val / 33)) (32 - 1) (k := 128) le_rfl]
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.lt_trichotomy (t.val % 33) 32 with h | h | h
  · by_cases h0 : t.val % 33 = 0
    · exact body_first m c t h0
    · exact body_mid m c t h0 h
  · exact body_last m c t h
  · exfalso; omega

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch as the region hands it over, at any contents. -/
theorem scratch_any (c : Dev nD) : (Pipeline.ΦA spec0 c : sProp 𝕄)
    = iprop(ScrAny c (Memref.whole cc0_scratch0) (Memref.whole cc0_scratch1) (Memref.whole cc0_scratch2) (Memref.whole cc0_scratch3) (Memref.whole cc0_scratch4)
        ∗ ∃ r, prngReg c r) := by
  unfold Pipeline.ΦA ScrAny
  rw [scopedRest0_eq]
  simp only [owns_whole]
  rfl

/-- The scratch at any contents meets the invariant before the first point. -/
theorem Phi_in (c : Dev nD) : (Pipeline.ΦA spec0 c : sProp 𝕄) ⊢ (dats m 0 c).Φ 0 := by
  rw [scratch_any]
  show _ ⊢ iprop(PhiS m c 0 ∗ ∃ r, prngReg c r)
  unfold PhiS
  rw [if_pos (by decide)]

/-- The invariant after the last point gives the scratch back at some contents. -/
theorem Phi_out (c : Dev nD) : (dats m 0 c).Φ (Fin.last cfg0.N) ⊢ (Pipeline.ΦA spec0 c : sProp 𝕄) := by
  rw [scratch_any]
  show iprop(PhiS m c 66 ∗ ∃ r, prngReg c r) ⊢ _
  unfold PhiS
  rw [if_pos (by decide)]

-- the launch theorem's implicit arguments are found by unifying its conclusion with this one
set_option backward.isDefEq.respectTransparency.types false in
/-- The launch: every array of the pipeline ends at what the proof data computes, every other buffer at what the host lines leave there, and every
    counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m Variants.none) (hA := A_eq m)
    (hin := Phi_in m) (hout := Phi_out m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.RefOps.lean ====
module

public import proofs.«01_k».proof.Proof.Gen.ReferenceIdeal
public import Idealize.ShloMosaic.Lib.StableHlo.Run
public import Idealize.ShloMosaic.Lib.StableHlo.RunLoop
public import Idealize.ShloMosaic.Lib.Pipeline.Regions

/- The reference's host operations, cut at its three loops: the lists, and @main and the loops' bodies as chains of them. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The operations of loop 0's condition. -/
abbrev cond0 : List (HloOp τ sig (Elt F)) :=
  [ StableHlo.nullary main_while0c_c_11 (constantI S_ 32 4095#32),
    StableHlo.binary main_v5_1 main_while0c_c_11 main_while0c_v43 (cmpi .slt : (⟨S_, .i32⟩ : BufTy).Contents (Elt F) → (⟨S_, .i32⟩ : BufTy).Contents (Elt F) → (⟨S_, .i1⟩ : BufTy).Contents (Elt F)) ]

/-- Each of them touches tensor values only. -/
theorem cond0_sub : (cond0 : List (HloOp τ sig (Elt F))).Forall fun op => op.bufs ⊆ StableHlo.tcRefs τ sig :=
  ⟨StableHlo.nullary_bufs_sub .., StableHlo.binary_bufs_sub ..⟩

/-- None of them allocates. -/
theorem cond0_fresh : ∀ op ∈ (cond0 : List (HloOp τ sig (Elt F))), op.fresh = ∅ :=
  List.forall_iff_forall_mem.mp (⟨rfl, rfl⟩ : (cond0 : List (HloOp τ sig (Elt F))).Forall fun op => op.fresh = ∅)

/-- The operations of fn_dynamic_index_in_dim's call 0. -/
abbrev call0 : List (HloOp τ sig (Elt F)) :=
  [ StableHlo.TRef.nullary main_while0b_call0.c (constantI S_ 32 0#32),
    StableHlo.TRef.nullary main_while0b_call0.c_0 (constantI S_ 32 0#32),
    StableHlo.TRef.unaryIndexed (.of main_v5_0 : StableHlo.TRef sig ⟨S4095x128x64, .f32⟩) ![(.of main_v5_1 : StableHlo.TRef sig ⟨S_, .i32⟩), main_while0b_call0.c, main_while0b_call0.c_0] main_while0b_call0.v0 (fun x i => Host.dynamicSlice S1x128x64 x (fun k => (i k (Shape.Idx.first h_S_)).toInt) sliceFits_S4095x128x64_S1x128x64),
    StableHlo.TRef.reshape main_while0b_call0.v0 main_while0b_call0.v1 (rfl : (.f32 : EltTy) = .f32) shapeCasts_S1x128x64_S128x64 ]

/-- Each of them touches tensor values only. -/
theorem call0_sub : (call0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- None of them allocates. -/
theorem call0_fresh : ∀ op ∈ (call0 : List (HloOp τ sig (Elt F))), op.fresh = ∅ :=
  List.forall_iff_forall_mem.mp (⟨rfl, rfl, rfl, rfl⟩ : (call0 : List (HloOp τ sig (Elt F))).Forall fun op => op.fresh = ∅)

/-- The call runs them. -/
theorem call0_eq : (fn_dynamic_index_in_dim.body (.of main_v5_0) (.of main_v5_1) main_while0b_call0 : Prog (TpuEff nD τ sig (Elt F) (HostLoop.Sig (Pipeline.Sig Λ₀ (Fin 0) fun p => (pcfgs (F := F) p).Adm) 3) .tc) PUnit) = StableHlo.seq call0 := rfl

/-- A stretch of loop 0's body. -/
abbrev body0a : List (HloOp τ sig (Elt F)) :=
  [ StableHlo.nullary main_while0b_cst_11 (constant S_ .f32 0x3F333333#32),
    StableHlo.unary main_while0b_cst_11 main_while0b_v44 (broadcastInDim S128x64 ![] bcast_S_S128x64 : (⟨S_, .f32⟩ : BufTy).Contents (Elt F) → (⟨S128x64, .f32⟩ : BufTy).Contents (Elt F)),
    StableHlo.binary main_while0b_v44 main_while0b_v43 main_while0b_v45 (mulf : (⟨S128x64, .f32⟩ : BufTy).Contents (Elt F) → (⟨S128x64, .f32⟩ : BufTy).Contents (Elt F) → (⟨S128x64, .f32⟩ : BufTy).Contents (Elt F)),
    StableHlo.nullary main_while0b_cst_12 (constant S_ .f32 0x3E99999A#32),
    StableHlo.unary main_while0b_cst_12 main_while0b_v46 (broadcastInDim S128x64 ![] bcast_S_S128x64 : (⟨S_, .f32⟩ : BufTy).Contents (Elt F) → (⟨S128x64, .f32⟩ : BufTy).Contents (Elt F)),
    StableHlo.binary main_while0b_v46 main_v5_2 main_while0b_v47 (mulf : (⟨S128x64, .f32⟩ : BufTy).Contents (Elt F) → (⟨S128x64, .f32⟩ : BufTy).Contents (Elt F) → (⟨S128x64, .f32⟩ : BufTy).Contents (Elt F)),
    StableHlo.binary main_while0b_v45 main_while0b_v47 main_while0b_v48 (addf : (⟨S128x64, .f32⟩ : BufTy).Contents (Elt F) → (⟨S128x64, .f32⟩ : BufTy).Contents (Elt F) → (⟨S128x64, .f32⟩ : BufTy).Contents (Elt F)) ]

/-- Each of them touches tensor values only. -/
theorem body0a_sub : (body0a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- None of them allocates. -/
theorem body0a_fresh : ∀ op ∈ (body0a : List (HloOp τ sig (Elt F))), op.fresh = ∅ :=
  List.forall_iff_forall_mem.mp (⟨rfl, rfl, rfl, rfl, rfl, rfl, rfl⟩ : (body0a : List (HloOp τ sig (Elt F))).Forall fun op => op.fresh = ∅)

/-- The operations of fn_dynamic_update_index_in_dim's call 1. -/
abbrev call1 : List (HloOp τ sig (Elt F)) :=
  [ StableHlo.TRef.unary (.of main_while0b_v48 : StableHlo.TRef sig ⟨S128x64, .f32⟩) main_while0b_call1.v0 (broadcastInDim S1x128x64 ![1, 2] bcast_S128x64_S1x128x64_1_2),
    StableHlo.TRef.nullary main_while0b_call1.c (constantI S_ 32 0#32),
    StableHlo.TRef.nullary main_while0b_call1.c_0 (constantI S_ 32 0#32),
    StableHlo.TRef.binaryIndexed (.of main_v5_3 : StableHlo.TRef sig ⟨S4095x128x64, .f32⟩) main_while0b_call1.v0 ![(.of main_v5_1 : StableHlo.TRef sig ⟨S_, .i32⟩), main_while0b_call1.c, main_while0b_call1.c_0] main_while0b_call1.v1 (fun x u i => Host.dynamicUpdateSlice x u (fun k => (i k (Shape.Idx.first h_S_)).toInt) updateFits_S4095x128x64_S1x128x64) ]

/-- Each of them touches tensor values only. -/
theorem call1_sub : (call1 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- None of them allocates. -/
theorem call1_fresh : ∀ op ∈ (call1 : List (HloOp τ sig (Elt F))), op.fresh = ∅ :=
  List.forall_iff_forall_mem.mp (⟨rfl, rfl, rfl, rfl⟩ : (call1 : List (HloOp τ sig (Elt F))).Forall fun op => op.fresh = ∅)

/-- The call runs them. -/
theorem call1_eq : (fn_dynamic_update_index_in_dim.body (.of main_v5_3) (.of main_while0b_v48) (.of main_v5_1) main_while0b_call1 : Prog (TpuEff nD τ sig (Elt F) (HostLoop.Sig (Pipeline.Sig Λ₀ (Fin 0) fun p => (pcfgs (F := F) p).Adm) 3) .tc) PUnit) = StableHlo.seq call1 := rfl

/-- A stretch of loop 0's body. -/
abbrev body0b : List (HloOp τ sig (Elt F)) :=
  [ StableHlo.nullary main_while0b_c_13 (constantI S_ 32 1#32),
    StableHlo.binary main_v5_1 main_while0b_c_13 main_while0b_v50 (addi : (⟨S_, .i32⟩ : BufTy).Contents (Elt F) → (⟨S_, .i32⟩ : BufTy).Contents (Elt F) → (⟨S_, .i32⟩ : BufTy).Contents (Elt F)),
    StableHlo.unary main_while0b_v50 main_v5_1 id,
    StableHlo.unary main_while0b_v48 main_v5_2 id,
    StableHlo.unary main_while0b_v49 main_v5_3 id ]

/-- Each of them touches tensor values only. -/
theorem body0b_sub : (body0b : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- None of them allocates. -/
theorem body0b_fresh : ∀ op ∈ (body0b : List (HloOp τ sig (Elt F))), op.fresh = ∅ :=
  List.forall_iff_forall_mem.mp (⟨rfl, rfl, rfl, rfl, rfl⟩ : (body0b : List (HloOp τ sig (Elt F))).Forall fun op => op.fresh = ∅)

/-- Loop 0's body as its stretches. -/
abbrev bodyI0 : List (List (HloOp τ sig (Elt F))) := [call0, body0a, call1, body0b]

/-- Loop 0's body is the chain of its stretches. -/
theorem body0_chain : main_while0_body (F := F) = Pipeline.chain (bodyI0.map fun ops => (StableHlo.seq ops : Prog (TpuEff nD τ sig (Elt F) (HostLoop.Sig (Pipeline.Sig Λ₀ (Fin 0) fun p => (pcfgs (F := F) p).Adm) 3) .tc) PUnit)) := by
  have h : main_while0_body (F := F) = (Pipeline.chain [fn_dynamic_index_in_dim.body (.of main_v5_0) (.of main_v5_1) main_while0b_call0, StableHlo.seq body0a, fn_dynamic_update_index_in_dim.body (.of main_v5_3) (.of main_while0b_v48) (.of main_v5_1) main_while0b_call1, StableHlo.seq body0b] : Prog (TpuEff nD τ sig (Elt F) (HostLoop.Sig (Pipeline.Sig Λ₀ (Fin 0) fun p => (pcfgs (F := F) p).Adm) 3) .tc) PUnit) := by
    rewrite [Pipeline.chain_cons, StableHlo.chain_seq_cons, Pipeline.chain_cons, StableHlo.chain_seq_cons]
    chain_rfl
  rw [h, call0_eq, call1_eq]
  rfl

/-- Its stretches allocate nothing. -/
theorem body0_plain : StableHlo.Plain (bodyI0 (F := F)) :=
  .cons call0_sub (.cons body0a_sub (.cons call1_sub (.cons body0b_sub (.nil) body0b_fresh) call1_fresh) body0a_fresh) call0_fresh

/-- The operations of loop 1's condition. -/
abbrev cond1 : List (HloOp τ sig (Elt F)) :=
  [ StableHlo.nullary main_while1c_c_11 (constantI S_ 32 4095#32),
    StableHlo.binary main_v15_1 main_while1c_c_11 main_while1c_v43 (cmpi .slt : (⟨S_, .i32⟩ : BufTy).Contents (Elt F) → (⟨S_, .i32⟩ : BufTy).Contents (Elt F) → (⟨S_, .i1⟩ : BufTy).Contents (Elt F)) ]

/-- Each of them touches tensor values only. -/
theorem cond1_sub : (cond1 : List (HloOp τ sig (Elt F))).Forall fun op => op.bufs ⊆ StableHlo.tcRefs τ sig :=
  ⟨StableHlo.nullary_bufs_sub .., StableHlo.binary_bufs_sub ..⟩

/-- None of them allocates. -/
theorem cond1_fresh : ∀ op ∈ (cond1 : List (HloOp τ sig (Elt F))), op.fresh = ∅ :=
  List.forall_iff_forall_mem.mp (⟨rfl, rfl⟩ : (cond1 : List (HloOp τ sig (Elt F))).Forall fun op => op.fresh = ∅)

/-- The operations of fn_dynamic_index_in_dim's call 2. -/
abbrev call2 : List (HloOp τ sig (Elt F)) :=
  [ StableHlo.TRef.nullary main_while1b_call2.c (constantI S_ 32 0#32),
    StableHlo.TRef.nullary main_while1b_call2.c_0 (constantI S_ 32 0#32),
    StableHlo.TRef.unaryIndexed (.of main_v15_0 : StableHlo.TRef sig ⟨S4095x128x64, .f32⟩) ![(.of main_v15_1 : StableHlo.TRef sig ⟨S_, .i32⟩), main_while1b_call2.c, main_while1b_call2.c_0] main_while1b_call2.v0 (fun x i => Host.dynamicSlice S1x128x64 x (fun k => (i k (Shape.Idx.first h_S_)).toInt) sliceFits_S4095x128x64_S1x128x64),
    StableHlo.TRef.reshape main_while1b_call2.v0 main_while1b_call2.v1 (rfl : (.f32 : EltTy) = .f32) shapeCasts_S1x128x64_S128x64 ]

/-- Each of them touches tensor values only. -/
theorem call2_sub : (call2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- None of them allocates. -/
theorem call2_fresh : ∀ op ∈ (call2 : List (HloOp τ sig (Elt F))), op.fresh = ∅ :=
  List.forall_iff_forall_mem.mp (⟨rfl, rfl, rfl, rfl⟩ : (call2 : List (HloOp τ sig (Elt F))).Forall fun op => op.fresh = ∅)

/-- The call runs them. -/
theorem call2_eq : (fn_dynamic_index_in_dim.body (.of main_v15_0) (.of main_v15_1) main_while1b_call2 : Prog (TpuEff nD τ sig (Elt F) (HostLoop.Sig (Pipeline.Sig Λ₀ (Fin 0) fun p => (pcfgs (F := F) p).Adm) 3) .tc) PUnit) = StableHlo.seq call2 := rfl

/-- A stretch of loop 1's body. -/
abbrev body1a : List (HloOp τ sig (Elt F)) :=
  [ StableHlo.nullary main_while1b_cst_11 (constant S_ .f32 0x3F000000#32),
    StableHlo.unary main_while1b_cst_11 main_while1b_v44 (broadcastInDim S128x64 ![] bcast_S_S128x64 : (⟨S_, .f32⟩ : BufTy).Contents (Elt F) → (⟨S128x64, .f32⟩ : BufTy).Contents (Elt F)),
    StableHlo.binary main_while1b_v44 main_while1b_v43 main_while1b_v45 (mulf : (⟨S128x64, .f32⟩ : BufTy).Contents (Elt F) → (⟨S128x64, .f32⟩ : BufTy).Contents (Elt F) → (⟨S128x64, .f32⟩ : BufTy).Contents (Elt F)),
    StableHlo.nullary main_while1b_cst_12 (constant S_ .f32 0x3F000000#32),
    StableHlo.unary main_while1b_cst_12 main_while1b_v46 (broadcastInDim S128x64 ![] bcast_S_S128x64 : (⟨S_, .f32⟩ : BufTy).Contents (Elt F) → (⟨S128x64, .f32⟩ : BufTy).Contents (Elt F)),
    StableHlo.binary main_while1b_v46 main_v15_2 main_while1b_v47 (mulf : (⟨S128x64, .f32⟩ : BufTy).Contents (Elt F) → (⟨S128x64, .f32⟩ : BufTy).Contents (Elt F) → (⟨S128x64, .f32⟩ : BufTy).Contents (Elt F)),
    StableHlo.binary main_while1b_v45 main_while1b_v47 main_while1b_v48 (addf : (⟨S128x64, .f32⟩ : BufTy).Contents (Elt F) → (⟨S128x64, .f32⟩ : BufTy).Contents (Elt F) → (⟨S128x64, .f32⟩ : BufTy).Contents (Elt F)) ]

/-- Each of them touches tensor values only. -/
theorem body1a_sub : (body1a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- None of them allocates. -/
theorem body1a_fresh : ∀ op ∈ (body1a : List (HloOp τ sig (Elt F))), op.fresh = ∅ :=
  List.forall_iff_forall_mem.mp (⟨rfl, rfl, rfl, rfl, rfl, rfl, rfl⟩ : (body1a : List (HloOp τ sig (Elt F))).Forall fun op => op.fresh = ∅)

/-- The operations of fn_dynamic_update_index_in_dim's call 3. -/
abbrev call3 : List (HloOp τ sig (Elt F)) :=
  [ StableHlo.TRef.unary (.of main_while1b_v48 : StableHlo.TRef sig ⟨S128x64, .f32⟩) main_while1b_call3.v0 (broadcastInDim S1x128x64 ![1, 2] bcast_S128x64_S1x128x64_1_2),
    StableHlo.TRef.nullary main_while1b_call3.c (constantI S_ 32 0#32),
    StableHlo.TRef.nullary main_while1b_call3.c_0 (constantI S_ 32 0#32),
    StableHlo.TRef.binaryIndexed (.of main_v15_3 : StableHlo.TRef sig ⟨S4095x128x64, .f32⟩) main_while1b_call3.v0 ![(.of main_v15_1 : StableHlo.TRef sig ⟨S_, .i32⟩), main_while1b_call3.c, main_while1b_call3.c_0] main_while1b_call3.v1 (fun x u i => Host.dynamicUpdateSlice x u (fun k => (i k (Shape.Idx.first h_S_)).toInt) updateFits_S4095x128x64_S1x128x64) ]

/-- Each of them touches tensor values only. -/
theorem call3_sub : (call3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- None of them allocates. -/
theorem call3_fresh : ∀ op ∈ (call3 : List (HloOp τ sig (Elt F))), op.fresh = ∅ :=
  List.forall_iff_forall_mem.mp (⟨rfl, rfl, rfl, rfl⟩ : (call3 : List (HloOp τ sig (Elt F))).Forall fun op => op.fresh = ∅)

/-- The call runs them. -/
theorem call3_eq : (fn_dynamic_update_index_in_dim.body (.of main_v15_3) (.of main_while1b_v48) (.of main_v15_1) main_while1b_call3 : Prog (TpuEff nD τ sig (Elt F) (HostLoop.Sig (Pipeline.Sig Λ₀ (Fin 0) fun p => (pcfgs (F := F) p).Adm) 3) .tc) PUnit) = StableHlo.seq call3 := rfl

/-- A stretch of loop 1's body. -/
abbrev body1b : List (HloOp τ sig (Elt F)) :=
  [ StableHlo.nullary main_while1b_c_13 (constantI S_ 32 1#32),
    StableHlo.binary main_v15_1 main_while1b_c_13 main_while1b_v50 (addi : (⟨S_, .i32⟩ : BufTy).Contents (Elt F) → (⟨S_, .i32⟩ : BufTy).Contents (Elt F) → (⟨S_, .i32⟩ : BufTy).Contents (Elt F)),
    StableHlo.unary main_while1b_v50 main_v15_1 id,
    StableHlo.unary main_while1b_v48 main_v15_2 id,
    StableHlo.unary main_while1b_v49 main_v15_3 id ]

/-- Each of them touches tensor values only. -/
theorem body1b_sub : (body1b : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- None of them allocates. -/
theorem body1b_fresh : ∀ op ∈ (body1b : List (HloOp τ sig (Elt F))), op.fresh = ∅ :=
  List.forall_iff_forall_mem.mp (⟨rfl, rfl, rfl, rfl, rfl⟩ : (body1b : List (HloOp τ sig (Elt F))).Forall fun op => op.fresh = ∅)

/-- Loop 1's body as its stretches. -/
abbrev bodyI1 : List (List (HloOp τ sig (Elt F))) := [call2, body1a, call3, body1b]

/-- Loop 1's body is the chain of its stretches. -/
theorem body1_chain : main_while1_body (F := F) = Pipeline.chain (bodyI1.map fun ops => (StableHlo.seq ops : Prog (TpuEff nD τ sig (Elt F) (HostLoop.Sig (Pipeline.Sig Λ₀ (Fin 0) fun p => (pcfgs (F := F) p).Adm) 3) .tc) PUnit)) := by
  have h : main_while1_body (F := F) = (Pipeline.chain [fn_dynamic_index_in_dim.body (.of main_v15_0) (.of main_v15_1) main_while1b_call2, StableHlo.seq body1a, fn_dynamic_update_index_in_dim.body (.of main_v15_3) (.of main_while1b_v48) (.of main_v15_1) main_while1b_call3, StableHlo.seq body1b] : Prog (TpuEff nD τ sig (Elt F) (HostLoop.Sig (Pipeline.Sig Λ₀ (Fin 0) fun p => (pcfgs (F := F) p).Adm) 3) .tc) PUnit) := by
    rewrite [Pipeline.chain_cons, StableHlo.chain_seq_cons, Pipeline.chain_cons, StableHlo.chain_seq_cons]
    chain_rfl
  rw [h, call2_eq, call3_eq]
  rfl

/-- Its stretches allocate nothing. -/
theorem body1_plain : StableHlo.Plain (bodyI1 (F := F)) :=
  .cons call2_sub (.cons body1a_sub (.cons call3_sub (.cons body1b_sub (.nil) body1b_fresh) call3_fresh) body1a_fresh) call2_fresh

/-- The operations of loop 2's condition. -/
abbrev cond2 : List (HloOp τ sig (Elt F)) :=
  [ StableHlo.nullary main_while2c_c_12 (constantI S_ 32 4096#32),
    StableHlo.binary main_v26_3 main_while2c_c_12 main_while2c_v43 (cmpi .slt : (⟨S_, .i32⟩ : BufTy).Contents (Elt F) → (⟨S_, .i32⟩ : BufTy).Contents (Elt F) → (⟨S_, .i1⟩ : BufTy).Contents (Elt F)) ]

/-- Each of them touches tensor values only. -/
theorem cond2_sub : (cond2 : List (HloOp τ sig (Elt F))).Forall fun op => op.bufs ⊆ StableHlo.tcRefs τ sig :=
  ⟨StableHlo.nullary_bufs_sub .., StableHlo.binary_bufs_sub ..⟩

/-- None of them allocates. -/
theorem cond2_fresh : ∀ op ∈ (cond2 : List (HloOp τ sig (Elt F))), op.fresh = ∅ :=
  List.forall_iff_forall_mem.mp (⟨rfl, rfl⟩ : (cond2 : List (HloOp τ sig (Elt F))).Forall fun op => op.fresh = ∅)

/-- The operations of fn_dynamic_index_in_dim_0's call 4. -/
abbrev call4 : List (HloOp τ sig (Elt F)) :=
  [ StableHlo.TRef.nullary main_while2b_call4.c (constantI S_ 32 0#32),
    StableHlo.TRef.nullary main_while2b_call4.c_0 (constantI S_ 32 0#32),
    StableHlo.TRef.unaryIndexed (.of main_v26_0 : StableHlo.TRef sig ⟨S4096x128x384, .f32⟩) ![(.of main_v26_3 : StableHlo.TRef sig ⟨S_, .i32⟩), main_while2b_call4.c, main_while2b_call4.c_0] main_while2b_call4.v0 (fun x i => Host.dynamicSlice S1x128x384 x (fun k => (i k (Shape.Idx.first h_S_)).toInt) sliceFits_S4096x128x384_S1x128x384),
    StableHlo.TRef.reshape main_while2b_call4.v0 main_while2b_call4.v1 (rfl : (.f32 : EltTy) = .f32) shapeCasts_S1x128x384_S128x384 ]

/-- Each of them touches tensor values only. -/
theorem call4_sub : (call4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- None of them allocates. -/
theorem call4_fresh : ∀ op ∈ (call4 : List (HloOp τ sig (Elt F))), op.fresh = ∅ :=
  List.forall_iff_forall_mem.mp (⟨rfl, rfl, rfl, rfl⟩ : (call4 : List (HloOp τ sig (Elt F))).Forall fun op => op.fresh = ∅)

/-- The call runs them. -/
theorem call4_eq : (fn_dynamic_index_in_dim_0.body (.of main_v26_0) (.of main_v26_3) main_while2b_call4 : Prog (TpuEff nD τ sig (Elt F) (HostLoop.Sig (Pipeline.Sig Λ₀ (Fin 0) fun p => (pcfgs (F := F) p).Adm) 3) .tc) PUnit) = StableHlo.seq call4 := rfl

/-- A stretch of loop 2's body. -/
abbrev body2a : List (HloOp τ sig (Elt F)) :=
  [ StableHlo.unary main_v26_1 main_while2b_v44 ((transpose S128x384 [1, 0] · transposes_S384x128_S128x384_1_0) : (⟨S384x128, .f32⟩ : BufTy).Contents (Elt F) → (⟨S128x384, .f32⟩ : BufTy).Contents (Elt F)),
    StableHlo.binary main_v26_4 main_while2b_v44 main_while2b_v45 ((fun l r => Host.dotGeneral dot_S128x128_S128x384_S128x384_1_0_0_1_n_n none l r) : (⟨S128x128, .f32⟩ : BufTy).Contents (Elt F) → (⟨S128x384, .f32⟩ : BufTy).Contents (Elt F) → (⟨S128x384, .f32⟩ : BufTy).Contents (Elt F)),
    StableHlo.unary main_v26_2 main_while2b_v46 (broadcastInDim S1x384 ![1] bcast_S384_S1x384_1 : (⟨S384, .f32⟩ : BufTy).Contents (Elt F) → (⟨S1x384, .f32⟩ : BufTy).Contents (Elt F)),
    StableHlo.unary main_while2b_v46 main_while2b_v47 (broadcastInDim S128x384 ![0, 1] bcast_S1x384_S128x384_0_1 : (⟨S1x384, .f32⟩ : BufTy).Contents (Elt F) → (⟨S128x384, .f32⟩ : BufTy).Contents (Elt F)),
    StableHlo.binary main_while2b_v45 main_while2b_v47 main_while2b_v48 (addf : (⟨S128x384, .f32⟩ : BufTy).Contents (Elt F) → (⟨S128x384, .f32⟩ : BufTy).Contents (Elt F) → (⟨S128x384, .f32⟩ : BufTy).Contents (Elt F)),
    StableHlo.unary main_while2b_v43 main_while2b_v49 ((extractStridedSlice S128x128 ![0, 0] · slices_S128x384_S128x128_0_0) : (⟨S128x384, .f32⟩ : BufTy).Contents (Elt F) → (⟨S128x128, .f32⟩ : BufTy).Contents (Elt F)),
    StableHlo.unary main_while2b_v43 main_while2b_v50 ((extractStridedSlice S128x128 ![0, 128] · slices_S128x384_S128x128_0_128) : (⟨S128x384, .f32⟩ : BufTy).Contents (Elt F) → (⟨S128x128, .f32⟩ : BufTy).Contents (Elt F)),
    StableHlo.unary main_while2b_v43 main_while2b_v51 ((extractStridedSlice S128x128 ![0, 256] · slices_S128x384_S128x128_0_256) : (⟨S128x384, .f32⟩ : BufTy).Contents (Elt F) → (⟨S128x128, .f32⟩ : BufTy).Contents (Elt F)),
    StableHlo.unary main_while2b_v48 main_while2b_v52 ((extractStridedSlice S128x128 ![0, 0] · slices_S128x384_S128x128_0_0) : (⟨S128x384, .f32⟩ : BufTy).Contents (Elt F) → (⟨S128x128, .f32⟩ : BufTy).Contents (Elt F)),
    StableHlo.unary main_while2b_v48 main_while2b_v53 ((extractStridedSlice S128x128 ![0, 128] · slices_S128x384_S128x128_0_128) : (⟨S128x384, .f32⟩ : BufTy).Contents (Elt F) → (⟨S128x128, .f32⟩ : BufTy).Contents (Elt F)),
    StableHlo.unary main_while2b_v48 main_while2b_v54 ((extractStridedSlice S128x128 ![0, 256] · slices_S128x384_S128x128_0_256) : (⟨S128x384, .f32⟩ : BufTy).Contents (Elt F) → (⟨S128x128, .f32⟩ : BufTy).Contents (Elt F)),
    StableHlo.binary main_while2b_v49 main_while2b_v52 main_while2b_v55 (addf : (⟨S128x128, .f32⟩ : BufTy).Contents (Elt F) → (⟨S128x128, .f32⟩ : BufTy).Contents (Elt F) → (⟨S128x128, .f32⟩ : BufTy).Contents (Elt F)),
    StableHlo.unary main_while2b_v55 main_while2b_v56 (Host.negf : (⟨S128x128, .f32⟩ : BufTy).Contents (Elt F) → (⟨S128x128, .f32⟩ : BufTy).Contents (Elt F)),
    StableHlo.unary main_while2b_v56 main_while2b_v57 (Host.exp : (⟨S128x128, .f32⟩ : BufTy).Contents (Elt F) → (⟨S128x128, .f32⟩ : BufTy).Contents (Elt F)),
    StableHlo.nullary main_while2b_cst_12 (constant S_ .f32 0x3F800000#32),
    StableHlo.unary main_while2b_cst_12 main_while2b_v58 (broadcastInDim S128x128 ![] bcast_S_S128x128 : (⟨S_, .f32⟩ : BufTy).Contents (Elt F) → (⟨S128x128, .f32⟩ : BufTy).Contents (Elt F)),
    StableHlo.binary main_while2b_v58 main_while2b_v57 main_while2b_v59 (addf : (⟨S128x128, .f32⟩ : BufTy).Contents (Elt F) → (⟨S128x128, .f32⟩ : BufTy).Contents (Elt F) → (⟨S128x128, .f32⟩ : BufTy).Contents (Elt F)),
    StableHlo.nullary main_while2b_cst_13 (constant S_ .f32 0x3F800000#32),
    StableHlo.unary main_while2b_cst_13 main_while2b_v60 (broadcastInDim S128x128 ![] bcast_S_S128x128 : (⟨S_, .f32⟩ : BufTy).Contents (Elt F) → (⟨S128x128, .f32⟩ : BufTy).Contents (Elt F)),
    StableHlo.binary main_while2b_v60 main_while2b_v59 main_while2b_v61 (Host.divf : (⟨S128x128, .f32⟩ : BufTy).Contents (Elt F) → (⟨S128x128, .f32⟩ : BufTy).Contents (Elt F) → (⟨S128x128, .f32⟩ : BufTy).Contents (Elt F)),
    StableHlo.binary main_while2b_v50 main_while2b_v53 main_while2b_v62 (addf : (⟨S128x128, .f32⟩ : BufTy).Contents (Elt F) → (⟨S128x128, .f32⟩ : BufTy).Contents (Elt F) → (⟨S128x128, .f32⟩ : BufTy).Contents (Elt F)),
    StableHlo.unary main_while2b_v62 main_while2b_v63 (Host.negf : (⟨S128x128, .f32⟩ : BufTy).Contents (Elt F) → (⟨S128x128, .f32⟩ : BufTy).Contents (Elt F)),
    StableHlo.unary main_while2b_v63 main_while2b_v64 (Host.exp : (⟨S128x128, .f32⟩ : BufTy).Contents (Elt F) → (⟨S128x128, .f32⟩ : BufTy).Contents (Elt F)),
    StableHlo.nullary main_while2b_cst_14 (constant S_ .f32 0x3F800000#32),
    StableHlo.unary main_while2b_cst_14 main_while2b_v65 (broadcastInDim S128x128 ![] bcast_S_S128x128 : (⟨S_, .f32⟩ : BufTy).Contents (Elt F) → (⟨S128x128, .f32⟩ : BufTy).Contents (Elt F)),
    StableHlo.binary main_while2b_v65 main_while2b_v64 main_while2b_v66 (addf : (⟨S128x128, .f32⟩ : BufTy).Contents (Elt F) → (⟨S128x128, .f32⟩ : BufTy).Contents (Elt F) → (⟨S128x128, .f32⟩ : BufTy).Contents (Elt F)),
    StableHlo.nullary main_while2b_cst_15 (constant S_ .f32 0x3F800000#32),
    StableHlo.unary main_while2b_cst_15 main_while2b_v67 (broadcastInDim S128x128 ![] bcast_S_S128x128 : (⟨S_, .f32⟩ : BufTy).Contents (Elt F) → (⟨S128x128, .f32⟩ : BufTy).Contents (Elt F)),
    StableHlo.binary main_while2b_v67 main_while2b_v66 main_while2b_v68 (Host.divf : (⟨S128x128, .f32⟩ : BufTy).Contents (Elt F) → (⟨S128x128, .f32⟩ : BufTy).Contents (Elt F) → (⟨S128x128, .f32⟩ : BufTy).Contents (Elt F)),
    StableHlo.binary main_while2b_v61 main_while2b_v54 main_while2b_v69 (mulf : (⟨S128x128, .f32⟩ : BufTy).Contents (Elt F) → (⟨S128x128, .f32⟩ : BufTy).Contents (Elt F) → (⟨S128x128, .f32⟩ : BufTy).Contents (Elt F)),
    StableHlo.binary main_while2b_v51 main_while2b_v69 main_while2b_v70 (addf : (⟨S128x128, .f32⟩ : BufTy).Contents (Elt F) → (⟨S128x128, .f32⟩ : BufTy).Contents (Elt F) → (⟨S128x128, .f32⟩ : BufTy).Contents (Elt F)),
    StableHlo.unary main_while2b_v70 main_while2b_v71 (Host.tanh : (⟨S128x128, .f32⟩ : BufTy).Contents (Elt F) → (⟨S128x128, .f32⟩ : BufTy).Contents (Elt F)),
    StableHlo.nullary main_while2b_cst_16 (constant S_ .f32 0x3F800000#32),
    StableHlo.unary main_while2b_cst_16 main_while2b_v72 (broadcastInDim S128x128 ![] bcast_S_S128x128 : (⟨S_, .f32⟩ : BufTy).Contents (Elt F) → (⟨S128x128, .f32⟩ : BufTy).Contents (Elt F)),
    StableHlo.binary main_while2b_v72 main_while2b_v68 main_while2b_v73 (subf : (⟨S128x128, .f32⟩ : BufTy).Contents (Elt F) → (⟨S128x128, .f32⟩ : BufTy).Contents (Elt F) → (⟨S128x128, .f32⟩ : BufTy).Contents (Elt F)),
    StableHlo.binary main_while2b_v73 main_while2b_v71 main_while2b_v74 (mulf : (⟨S128x128, .f32⟩ : BufTy).Contents (Elt F) → (⟨S128x128, .f32⟩ : BufTy).Contents (Elt F) → (⟨S128x128, .f32⟩ : BufTy).Contents (Elt F)),
    StableHlo.binary main_while2b_v68 main_v26_4 main_while2b_v75 (mulf : (⟨S128x128, .f32⟩ : BufTy).Contents (Elt F) → (⟨S128x128, .f32⟩ : BufTy).Contents (Elt F) → (⟨S128x128, .f32⟩ : BufTy).Contents (Elt F)),
    StableHlo.binary main_while2b_v74 main_while2b_v75 main_while2b_v76 (addf : (⟨S128x128, .f32⟩ : BufTy).Contents (Elt F) → (⟨S128x128, .f32⟩ : BufTy).Contents (Elt F) → (⟨S128x128, .f32⟩ : BufTy).Contents (Elt F)),
    StableHlo.nullary main_while2b_c_17 (constantI S_ 32 1#32),
    StableHlo.binary main_v26_3 main_while2b_c_17 main_while2b_v77 (addi : (⟨S_, .i32⟩ : BufTy).Contents (Elt F) → (⟨S_, .i32⟩ : BufTy).Contents (Elt F) → (⟨S_, .i32⟩ : BufTy).Contents (Elt F)),
    StableHlo.unary main_while2b_v77 main_v26_3 id,
    StableHlo.unary main_while2b_v76 main_v26_4 id ]

/-- Each of them touches tensor values only. -/
theorem body2a_sub : (body2a : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub ..⟩

/-- None of them allocates. -/
theorem body2a_fresh : ∀ op ∈ (body2a : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (body2a : List (HloOp τ sig (Elt F))).Forall fun op => op.fresh = ∅)

/-- Loop 2's body as its stretches. -/
abbrev bodyI2 : List (List (HloOp τ sig (Elt F))) := [call4, body2a]

/-- Loop 2's body is the chain of its stretches. -/
theorem body2_chain : main_while2_body (F := F) = Pipeline.chain (bodyI2.map fun ops => (StableHlo.seq ops : Prog (TpuEff nD τ sig (Elt F) (HostLoop.Sig (Pipeline.Sig Λ₀ (Fin 0) fun p => (pcfgs (F := F) p).Adm) 3) .tc) PUnit)) := by
  have h : main_while2_body (F := F) = (Pipeline.chain [fn_dynamic_index_in_dim_0.body (.of main_v26_0) (.of main_v26_3) main_while2b_call4, StableHlo.seq body2a] : Prog (TpuEff nD τ sig (Elt F) (HostLoop.Sig (Pipeline.Sig Λ₀ (Fin 0) fun p => (pcfgs (F := F) p).Adm) 3) .tc) PUnit) := by
    rewrite [Pipeline.chain_cons, StableHlo.chain_seq_cons]
    chain_rfl
  rw [h, call4_eq]
  rfl

/-- Its stretches allocate nothing. -/
theorem body2_plain : StableHlo.Plain (bodyI2 (F := F)) :=
  .cons call4_sub (.cons body2a_sub (.nil) body2a_fresh) call4_fresh

/-- A stretch of @main. -/
abbrev pre : List (HloOp τ sig (Elt F)) :=
  [ StableHlo.unary main_arg0 main_v0 ((extractStridedSlice S128x1x64 ![0, 0, 0] · slices_S128x4096x64_S128x1x64_0_0_0) : (⟨S128x4096x64, .f32⟩ : BufTy).Contents (Elt F) → (⟨S128x1x64, .f32⟩ : BufTy).Contents (Elt F)),
    StableHlo.reshape main_v0 main_v1 (rfl : (.f32 : EltTy) = .f32) shapeCasts_S128x1x64_S128x64,
    StableHlo.unary main_arg0 main_v2 ((extractStridedSlice S128x4095x64 ![0, 1, 0] · slices_S128x4096x64_S128x4095x64_0_1_0) : (⟨S128x4096x64, .f32⟩ : BufTy).Contents (Elt F) → (⟨S128x4095x64, .f32⟩ : BufTy).Contents (Elt F)),
    StableHlo.unary main_v2 main_v3 ((transpose S4095x128x64 [1, 0, 2] · transposes_S128x4095x64_S4095x128x64_1_0_2) : (⟨S128x4095x64, .f32⟩ : BufTy).Contents (Elt F) → (⟨S4095x128x64, .f32⟩ : BufTy).Contents (Elt F)),
    StableHlo.nullary main_cst (constant S_ .f32 0x00000000#32),
    StableHlo.unary main_cst main_v4 (broadcastInDim S4095x128x64 ![] bcast_S_S4095x128x64 : (⟨S_, .f32⟩ : BufTy).Contents (Elt F) → (⟨S4095x128x64, .f32⟩ : BufTy).Contents (Elt F)),
    StableHlo.nullary main_c (constantI S_ 32 0#32),
    StableHlo.unary main_v3 main_v5_0 id,
    StableHlo.unary main_c main_v5_1 id,
    StableHlo.unary main_v1 main_v5_2 id,
    StableHlo.unary main_v4 main_v5_3 id ]

/-- Each of them touches tensor values only. -/
theorem pre_sub : (pre : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩

/-- None of them allocates. -/
theorem pre_fresh : ∀ op ∈ (pre : List (HloOp τ sig (Elt F))), op.fresh = ∅ :=
  List.forall_iff_forall_mem.mp (⟨rfl, rfl, rfl, rfl, rfl, rfl, rfl, rfl, rfl, rfl, rfl⟩ : (pre : List (HloOp τ sig (Elt F))).Forall fun op => op.fresh = ∅)

/-- A stretch of @main. -/
abbrev midA : List (HloOp τ sig (Elt F)) :=
  [ StableHlo.unary main_v1 main_v6 (broadcastInDim S128x1x64 ![0, 2] bcast_S128x64_S128x1x64_0_2 : (⟨S128x64, .f32⟩ : BufTy).Contents (Elt F) → (⟨S128x1x64, .f32⟩ : BufTy).Contents (Elt F)),
    StableHlo.unary main_v5_3 main_v7 ((transpose S128x4095x64 [1, 0, 2] · transposes_S4095x128x64_S128x4095x64_1_0_2) : (⟨S4095x128x64, .f32⟩ : BufTy).Contents (Elt F) → (⟨S128x4095x64, .f32⟩ : BufTy).Contents (Elt F)),
    StableHlo.binary main_v6 main_v7 main_v8 ((fun a b => concatenate S128x4096x64 1 [⟨S128x1x64, a⟩, ⟨S128x4095x64, b⟩] concatenates_S128x1x64_S128x4095x64_S128x4096x64_d1) : (⟨S128x1x64, .f32⟩ : BufTy).Contents (Elt F) → (⟨S128x4095x64, .f32⟩ : BufTy).Contents (Elt F) → (⟨S128x4096x64, .f32⟩ : BufTy).Contents (Elt F)),
    StableHlo.unary main_v8 main_v9 ((extractStridedSlice S128x1x2 ![0, 4095, 1] · slices_S128x4096x64_S128x1x2_0_4095_1) : (⟨S128x4096x64, .f32⟩ : BufTy).Contents (Elt F) → (⟨S128x1x2, .f32⟩ : BufTy).Contents (Elt F)),
    StableHlo.unary main_v8 main_v10 ((extractStridedSlice S128x1x64 ![0, 0, 0] · slices_S128x4096x64_S128x1x64_0_0_0) : (⟨S128x4096x64, .f32⟩ : BufTy).Contents (Elt F) → (⟨S128x1x64, .f32⟩ : BufTy).Contents (Elt F)),
    StableHlo.reshape main_v10 main_v11 (rfl : (.f32 : EltTy) = .f32) shapeCasts_S128x1x64_S128x64,
    StableHlo.unary main_v8 main_v12 ((extractStridedSlice S128x4095x64 ![0, 1, 0] · slices_S128x4096x64_S128x4095x64_0_1_0) : (⟨S128x4096x64, .f32⟩ : BufTy).Contents (Elt F) → (⟨S128x4095x64, .f32⟩ : BufTy).Contents (Elt F)),
    StableHlo.unary main_v12 main_v13 ((transpose S4095x128x64 [1, 0, 2] · transposes_S128x4095x64_S4095x128x64_1_0_2) : (⟨S128x4095x64, .f32⟩ : BufTy).Contents (Elt F) → (⟨S4095x128x64, .f32⟩ : BufTy).Contents (Elt F)),
    StableHlo.nullary main_cst_0 (constant S_ .f32 0x00000000#32),
    StableHlo.unary main_cst_0 main_v14 (broadcastInDim S4095x128x64 ![] bcast_S_S4095x128x64 : (⟨S_, .f32⟩ : BufTy).Contents (Elt F) → (⟨S4095x128x64, .f32⟩ : BufTy).Contents (Elt F)),
    StableHlo.nullary main_c_1 (constantI S_ 32 0#32),
    StableHlo.unary main_v13 main_v15_0 id,
    StableHlo.unary main_c_1 main_v15_1 id,
    StableHlo.unary main_v11 main_v15_2 id,
    StableHlo.unary main_v14 main_v15_3 id ]

/-- Each of them touches tensor values only. -/
theorem midA_sub : (midA : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩

/-- None of them allocates. -/
theorem midA_fresh : ∀ op ∈ (midA : List (HloOp τ sig (Elt F))), op.fresh = ∅ :=
  List.forall_iff_forall_mem.mp (⟨rfl, rfl, rfl, rfl, rfl, rfl, rfl, rfl, rfl, rfl, rfl, rfl, rfl, rfl, rfl⟩ : (midA : List (HloOp τ sig (Elt F))).Forall fun op => op.fresh = ∅)

/-- A stretch of @main. -/
abbrev midB : List (HloOp τ sig (Elt F)) :=
  [ StableHlo.unary main_v11 main_v16 (broadcastInDim S128x1x64 ![0, 2] bcast_S128x64_S128x1x64_0_2 : (⟨S128x64, .f32⟩ : BufTy).Contents (Elt F) → (⟨S128x1x64, .f32⟩ : BufTy).Contents (Elt F)),
    StableHlo.unary main_v15_3 main_v17 ((transpose S128x4095x64 [1, 0, 2] · transposes_S4095x128x64_S128x4095x64_1_0_2) : (⟨S4095x128x64, .f32⟩ : BufTy).Contents (Elt F) → (⟨S128x4095x64, .f32⟩ : BufTy).Contents (Elt F)),
    StableHlo.binary main_v16 main_v17 main_v18 ((fun a b => concatenate S128x4096x64 1 [⟨S128x1x64, a⟩, ⟨S128x4095x64, b⟩] concatenates_S128x1x64_S128x4095x64_S128x4096x64_d1) : (⟨S128x1x64, .f32⟩ : BufTy).Contents (Elt F) → (⟨S128x4095x64, .f32⟩ : BufTy).Contents (Elt F) → (⟨S128x4096x64, .f32⟩ : BufTy).Contents (Elt F)),
    StableHlo.unary main_v18 main_v19 ((extractStridedSlice S128x1x2 ![0, 4095, 1] · slices_S128x4096x64_S128x1x2_0_4095_1) : (⟨S128x4096x64, .f32⟩ : BufTy).Contents (Elt F) → (⟨S128x1x2, .f32⟩ : BufTy).Contents (Elt F)),
    StableHlo.binary main_v18 main_arg1 main_v20 ((fun l r => Host.dotGeneral dot_S128x4096x64_S384x64_S128x4096x384_2_1_01_0_n_n none l r) : (⟨S128x4096x64, .f32⟩ : BufTy).Contents (Elt F) → (⟨S384x64, .f32⟩ : BufTy).Contents (Elt F) → (⟨S128x4096x384, .f32⟩ : BufTy).Contents (Elt F)),
    StableHlo.unary main_arg3 main_v21 (broadcastInDim S1x1x384 ![2] bcast_S384_S1x1x384_2 : (⟨S384, .f32⟩ : BufTy).Contents (Elt F) → (⟨S1x1x384, .f32⟩ : BufTy).Contents (Elt F)),
    StableHlo.unary main_v21 main_v22 (broadcastInDim S128x4096x384 ![0, 1, 2] bcast_S1x1x384_S128x4096x384_0_1_2 : (⟨S1x1x384, .f32⟩ : BufTy).Contents (Elt F) → (⟨S128x4096x384, .f32⟩ : BufTy).Contents (Elt F)),
    StableHlo.binary main_v20 main_v22 main_v23 (addf : (⟨S128x4096x384, .f32⟩ : BufTy).Contents (Elt F) → (⟨S128x4096x384, .f32⟩ : BufTy).Contents (Elt F) → (⟨S128x4096x384, .f32⟩ : BufTy).Contents (Elt F)),
    StableHlo.nullary main_cst_2 (constant S_ .f32 0x00000000#32),
    StableHlo.unary main_cst_2 main_v24 (broadcastInDim S128x128 ![] bcast_S_S128x128 : (⟨S_, .f32⟩ : BufTy).Contents (Elt F) → (⟨S128x128, .f32⟩ : BufTy).Contents (Elt F)),
    StableHlo.unary main_v23 main_v25 ((transpose S4096x128x384 [1, 0, 2] · transposes_S128x4096x384_S4096x128x384_1_0_2) : (⟨S128x4096x384, .f32⟩ : BufTy).Contents (Elt F) → (⟨S4096x128x384, .f32⟩ : BufTy).Contents (Elt F)),
    StableHlo.nullary main_c_3 (constantI S_ 32 0#32),
    StableHlo.unary main_v25 main_v26_0 id,
    StableHlo.unary main_arg2 main_v26_1 id,
    StableHlo.unary main_arg4 main_v26_2 id,
    StableHlo.unary main_c_3 main_v26_3 id,
    StableHlo.unary main_v24 main_v26_4 id ]

/-- Each of them touches tensor values only. -/
theorem midB_sub : (midB : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- None of them allocates. -/
theorem midB_fresh : ∀ op ∈ (midB : List (HloOp τ sig (Elt F))), op.fresh = ∅ :=
  List.forall_iff_forall_mem.mp (⟨rfl, rfl, rfl, rfl, rfl, rfl, rfl, rfl, rfl, rfl, rfl, rfl, rfl, rfl, rfl, rfl, rfl⟩ : (midB : List (HloOp τ sig (Elt F))).Forall fun op => op.fresh = ∅)

/-- A stretch of @main after the last loop. -/
abbrev postA : List (HloOp τ sig (Elt F)) :=
  [ StableHlo.unary main_arg5 main_v27 ((transpose S128x2 [1, 0] · transposes_S2x128_S128x2_1_0) : (⟨S2x128, .f32⟩ : BufTy).Contents (Elt F) → (⟨S128x2, .f32⟩ : BufTy).Contents (Elt F)),
    StableHlo.binary main_v26_4 main_v27 main_v28 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg6 main_v29 (broadcastInDim S1x2 ![1] bcast_S2_S1x2_1 : (⟨S2, .f32⟩ : BufTy).Contents (Elt F) → (⟨S1x2, .f32⟩ : BufTy).Contents (Elt F)),
    StableHlo.unary main_v29 main_v30 (broadcastInDim S128x2 ![0, 1] bcast_S1x2_S128x2_0_1 : (⟨S1x2, .f32⟩ : BufTy).Contents (Elt F) → (⟨S128x2, .f32⟩ : BufTy).Contents (Elt F)),
    StableHlo.binary main_v28 main_v30 main_v31 (addf : (⟨S128x2, .f32⟩ : BufTy).Contents (Elt F) → (⟨S128x2, .f32⟩ : BufTy).Contents (Elt F) → (⟨S128x2, .f32⟩ : BufTy).Contents (Elt F)),
    StableHlo.unary main_v31 main_v32 (broadcastInDim S128x1x2 ![0, 2] bcast_S128x2_S128x1x2_0_2 : (⟨S128x2, .f32⟩ : BufTy).Contents (Elt F) → (⟨S128x1x2, .f32⟩ : BufTy).Contents (Elt F)),
    StableHlo.nullary main_cst_4 (constant S_ .f32 0x3F000000#32),
    StableHlo.unary main_cst_4 main_v33 (broadcastInDim S128x1x2 ![] bcast_S_S128x1x2 : (⟨S_, .f32⟩ : BufTy).Contents (Elt F) → (⟨S128x1x2, .f32⟩ : BufTy).Contents (Elt F)),
    StableHlo.binary main_v33 main_v19 main_v34 (mulf : (⟨S128x1x2, .f32⟩ : BufTy).Contents (Elt F) → (⟨S128x1x2, .f32⟩ : BufTy).Contents (Elt F) → (⟨S128x1x2, .f32⟩ : BufTy).Contents (Elt F)),
    StableHlo.binary main_v32 main_v34 main_v35 (subf : (⟨S128x1x2, .f32⟩ : BufTy).Contents (Elt F) → (⟨S128x1x2, .f32⟩ : BufTy).Contents (Elt F) → (⟨S128x1x2, .f32⟩ : BufTy).Contents (Elt F)),
    StableHlo.nullary main_cst_5 (constant S_ .f32 0x3F000000#32),
    StableHlo.unary main_cst_5 main_v36 (broadcastInDim S128x1x2 ![] bcast_S_S128x1x2 : (⟨S_, .f32⟩ : BufTy).Contents (Elt F) → (⟨S128x1x2, .f32⟩ : BufTy).Contents (Elt F)),
    StableHlo.binary main_v35 main_v36 main_v37 (Host.divf : (⟨S128x1x2, .f32⟩ : BufTy).Contents (Elt F) → (⟨S128x1x2, .f32⟩ : BufTy).Contents (Elt F) → (⟨S128x1x2, .f32⟩ : BufTy).Contents (Elt F)) ]

/-- Each of them touches tensor values only. -/
theorem postA_sub : (postA : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

/-- None of them allocates. -/
theorem postA_fresh : ∀ op ∈ (postA : List (HloOp τ sig (Elt F))), op.fresh = ∅ :=
  List.forall_iff_forall_mem.mp (⟨rfl, rfl, rfl, rfl, rfl, rfl, rfl, rfl, rfl, rfl, rfl, rfl, rfl⟩ : (postA : List (HloOp τ sig (Elt F))).Forall fun op => op.fresh = ∅)

/-- The operation of @main the printed program's first part ends with. -/
abbrev postM : List (HloOp τ sig (Elt F)) :=
  [ StableHlo.nullary main_cst_6 (constant S_ .f32 0x3E99999A#32) ]

/-- Each of them touches tensor values only. -/
theorem postM_sub : (postM : List (HloOp τ sig (Elt F))).Forall fun op => op.bufs ⊆ StableHlo.tcRefs τ sig :=
  StableHlo.nullary_bufs_sub ..

/-- None of them allocates. -/
theorem postM_fresh : ∀ op ∈ (postM : List (HloOp τ sig (Elt F))), op.fresh = ∅ :=
  List.forall_iff_forall_mem.mp (rfl : (postM : List (HloOp τ sig (Elt F))).Forall fun op => op.fresh = ∅)

/-- The rest of @main. -/
abbrev postB : List (HloOp τ sig (Elt F)) :=
  [ StableHlo.unary main_cst_6 main_v38 (broadcastInDim S128x1x2 ![] bcast_S_S128x1x2 : (⟨S_, .f32⟩ : BufTy).Contents (Elt F) → (⟨S128x1x2, .f32⟩ : BufTy).Contents (Elt F)),
    StableHlo.binary main_v38 main_v9 main_v39 (mulf : (⟨S128x1x2, .f32⟩ : BufTy).Contents (Elt F) → (⟨S128x1x2, .f32⟩ : BufTy).Contents (Elt F) → (⟨S128x1x2, .f32⟩ : BufTy).Contents (Elt F)),
    StableHlo.binary main_v37 main_v39 main_v40 (subf : (⟨S128x1x2, .f32⟩ : BufTy).Contents (Elt F) → (⟨S128x1x2, .f32⟩ : BufTy).Contents (Elt F) → (⟨S128x1x2, .f32⟩ : BufTy).Contents (Elt F)),
    StableHlo.nullary main_cst_7 (constant S_ .f32 0x3F333333#32),
    StableHlo.unary main_cst_7 main_v41 (broadcastInDim S128x1x2 ![] bcast_S_S128x1x2 : (⟨S_, .f32⟩ : BufTy).Contents (Elt F) → (⟨S128x1x2, .f32⟩ : BufTy).Contents (Elt F)),
    StableHlo.binary main_v40 main_v41 main_v42 (Host.divf : (⟨S128x1x2, .f32⟩ : BufTy).Contents (Elt F) → (⟨S128x1x2, .f32⟩ : BufTy).Contents (Elt F) → (⟨S128x1x2, .f32⟩ : BufTy).Contents (Elt F)) ]

/-- Each of them touches tensor values only. -/
theorem postB_sub : (postB : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub ..⟩

/-- None of them allocates. -/
theorem postB_fresh : ∀ op ∈ (postB : List (HloOp τ sig (Elt F))), op.fresh = ∅ :=
  List.forall_iff_forall_mem.mp (⟨rfl, rfl, rfl, rfl, rfl, rfl⟩ : (postB : List (HloOp τ sig (Elt F))).Forall fun op => op.fresh = ∅)

/-- @main as its stretches and loops. -/
theorem main_chain (c : Dev nD) : main (F := F) c = (Pipeline.chain
    [StableHlo.seq pre, HostLoop.enter 0, StableHlo.seq midA, HostLoop.enter 1, StableHlo.seq midB, HostLoop.enter 2,
      StableHlo.seq postA, StableHlo.seq postM, StableHlo.seq postB] : Prog (TpuEff nD τ sig (Elt F) (HostLoop.Sig (Pipeline.Sig Λ₀ (Fin 0) fun p => (pcfgs (F := F) p).Adm) 3) .tc) PUnit) := by
  have h0 : main_part0 (F := F) c = Pipeline.chainK
      [StableHlo.seq pre, HostLoop.enter 0, StableHlo.seq midA, HostLoop.enter 1, StableHlo.seq midB, HostLoop.enter 2, StableHlo.seq postA]
      (StableHlo.seq postM) := by
    rewrite [StableHlo.chainK_seq_cons, Pipeline.chainK_cons, StableHlo.chainK_seq_cons, Pipeline.chainK_cons, StableHlo.chainK_seq_cons,
      Pipeline.chainK_cons, StableHlo.chainK_seq_cons]
    chain_rfl
  have h1 : main_part1 (F := F) c = Pipeline.chain [StableHlo.seq postB] := by
    rewrite [StableHlo.chain_seq_cons]
    chain_rfl
  exact Pipeline.chain_of_window h0 h1

/-- It allocates nothing. -/
theorem pre_plain : StableHlo.Plain [pre (F := F)] := .cons pre_sub (.nil) pre_fresh

/-- It allocates nothing. -/
theorem midA_plain : StableHlo.Plain [midA (F := F)] := .cons midA_sub (.nil) midA_fresh

/-- It allocates nothing. -/
theorem midB_plain : StableHlo.Plain [midB (F := F)] := .cons midB_sub (.nil) midB_fresh

/-- They allocate nothing. -/
theorem post_plain : StableHlo.Plain [postA (F := F), postM, postB] := .cons postA_sub (.cons postM_sub (.cons postB_sub (.nil) postB_fresh) postM_fresh) postA_fresh

end Cert.ReferenceIdeal.Hand
-- ==== Proof.RefStep.lean ====
module

public import proofs.«01_k».proof.Proof.RefOps
public import Idealize.ShloMosaic.Lib.StableHlo.RunClose

/- What one round of each of the reference's loops leaves in the buffers it carries. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The contents of a buffer of this type. -/
local notation "C[" s ", " e "]" => BufTy.Contents (Elt F) ⟨s, e⟩

/-- The index of a row: the counter on the first axis, zero on the other two. -/
def at3 (i : C[S_, .i32]) : Fin 3 → Int :=
  fun k => ((![i, constantI S_ 32 0#32, constantI S_ 32 0#32] : Fin 3 → C[S_, .i32]) k (Shape.Idx.first h_S_)).toInt

/-- Row `i` of a stack of input rows. -/
def rowAt (x : C[S4095x128x64, .f32]) (i : C[S_, .i32]) : C[S128x64, .f32] :=
  shapeCast S128x64 (Host.dynamicSlice S1x128x64 x (at3 i) sliceFits_S4095x128x64_S1x128x64) shapeCasts_S1x128x64_S128x64

/-- The stack with row `i` replaced. -/
def setRow (x : C[S4095x128x64, .f32]) (r : C[S128x64, .f32]) (i : C[S_, .i32]) : C[S4095x128x64, .f32] :=
  Host.dynamicUpdateSlice x (broadcastInDim S1x128x64 ![1, 2] bcast_S128x64_S1x128x64_1_2 r) (at3 i) updateFits_S4095x128x64_S1x128x64

/-- One step of an exponential average with the two given coefficients. -/
def mix (a b : C[S_, .f32]) (x prev : C[S128x64, .f32]) : C[S128x64, .f32] :=
  addf (mulf (broadcastInDim S128x64 ![] bcast_S_S128x64 a) x) (mulf (broadcastInDim S128x64 ![] bcast_S_S128x64 b) prev)

/-- Loop 0's step. -/
abbrev mix0 : C[S128x64, .f32] → C[S128x64, .f32] → C[S128x64, .f32] :=
  mix (constant S_ .f32 0x3F333333#32) (constant S_ .f32 0x3E99999A#32)

/-- Loop 1's step. -/
abbrev mix1 : C[S128x64, .f32] → C[S128x64, .f32] → C[S128x64, .f32] :=
  mix (constant S_ .f32 0x3F000000#32) (constant S_ .f32 0x3F000000#32)

/-- Row `i` of a stack of projected rows. -/
def projAt (x : C[S4096x128x384, .f32]) (i : C[S_, .i32]) : C[S128x384, .f32] :=
  shapeCast S128x384 (Host.dynamicSlice S1x128x384 x (at3 i) sliceFits_S4096x128x384_S1x128x384) shapeCasts_S1x128x384_S128x384

/-- The hidden state's projection. -/
def hproj (w : C[S384x128, .f32]) (b : C[S384, .f32]) (h : C[S128x128, .f32]) : C[S128x384, .f32] :=
  addf (Host.dotGeneral dot_S128x128_S128x384_S128x384_1_0_0_1_n_n none h (transpose S128x384 [1, 0] w transposes_S384x128_S128x384_1_0))
    (broadcastInDim S128x384 ![0, 1] bcast_S1x384_S128x384_0_1 (broadcastInDim S1x384 ![1] bcast_S384_S1x384_1 b))

/-- All ones. -/
def ones : C[S128x128, .f32] := broadcastInDim S128x128 ![] bcast_S_S128x128 (constant S_ .f32 0x3F800000#32)

/-- The logistic function, as the reference writes it. -/
def logi (x : C[S128x128, .f32]) : C[S128x128, .f32] := Host.divf ones (addf ones (Host.exp (Host.negf x)))

/-- The three thirds of a projection. -/
def cut0 (x : C[S128x384, .f32]) : C[S128x128, .f32] := extractStridedSlice S128x128 ![0, 0] x slices_S128x384_S128x128_0_0
@[inherit_doc cut0] def cut1 (x : C[S128x384, .f32]) : C[S128x128, .f32] := extractStridedSlice S128x128 ![0, 128] x slices_S128x384_S128x128_0_128
@[inherit_doc cut0] def cut2 (x : C[S128x384, .f32]) : C[S128x128, .f32] := extractStridedSlice S128x128 ![0, 256] x slices_S128x384_S128x128_0_256

/-- One step of the recurrence, from the two projections. -/
def gates (p g : C[S128x384, .f32]) (h : C[S128x128, .f32]) : C[S128x128, .f32] :=
  addf (mulf (subf ones (logi (addf (cut1 p) (cut1 g)))) (Host.tanh (addf (cut2 p) (mulf (logi (addf (cut0 p) (cut0 g))) (cut2 g)))))
    (mulf (logi (addf (cut1 p) (cut1 g))) h)

/-- A buffer's contents under a valuation. -/
abbrev rd (V : Valuation τ sig (Elt F)) (b : Ref sig .tc) : b.ty.Contents (Elt F) := V (Proc.devRef .tc b)

variable (V : Valuation τ sig (Elt F))

/-- The contents after loop 0's condition. -/
abbrev condV0 : Valuation τ sig (Elt F) := after cond0 V

/-- One round of loop 0: its condition, then its body. -/
abbrev round0 : Valuation τ sig (Elt F) := afterL bodyI0 (after cond0 V)

/-- The counter goes up by one. -/
theorem round0_cnt : rd (round0 V) main_v5_1 = addi (rd V main_v5_1) (constantI S_ 32 1#32) := by
  simp only [rd, round0, afterL_cons, afterL_nil]
  after_results_simp_entrywise
  rfl

/-- The average moves one row on. -/
theorem round0_prev : rd (round0 V) main_v5_2 = mix0 (rowAt (rd V main_v5_0) (rd V main_v5_1)) (rd V main_v5_2) := by
  simp only [rd, round0, afterL_cons, afterL_nil]
  after_results_simp_entrywise
  rfl

/-- The new average is put in its row. -/
theorem round0_out : rd (round0 V) main_v5_3 = setRow (rd V main_v5_3) (mix0 (rowAt (rd V main_v5_0) (rd V main_v5_1)) (rd V main_v5_2)) (rd V main_v5_1) := by
  simp only [rd, round0, afterL_cons, afterL_nil]
  after_results_simp_entrywise
  rfl

/-- What the round leaves alone. -/
theorem round0_keep (b : Ref sig .tc) (hb : b ∈ ([main_arg0, main_arg1, main_arg2, main_arg3, main_arg4, main_arg5, main_arg6, main_v1, main_v5_0] : List (Ref sig .tc))) : rd (round0 V) b = rd V b := by
  fin_cases hb <;> (simp only [rd, round0, afterL_cons, afterL_nil]; after_results_simp)

/-- The condition leaves alone what the loop carries and the arguments. -/
theorem cond0_keep (b : Ref sig .tc) (hb : b ∈ ([main_arg0, main_arg1, main_arg2, main_arg3, main_arg4, main_arg5, main_arg6, main_v1, main_v5_0, main_v5_1, main_v5_2, main_v5_3] : List (Ref sig .tc))) : rd (condV0 V) b = rd V b := by
  fin_cases hb <;> (simp only [rd, condV0, afterL_cons, afterL_nil]; after_results_simp)

/-- The contents after loop 1's condition. -/
abbrev condV1 : Valuation τ sig (Elt F) := after cond1 V

/-- One round of loop 1: its condition, then its body. -/
abbrev round1 : Valuation τ sig (Elt F) := afterL bodyI1 (after cond1 V)

/-- The counter goes up by one. -/
theorem round1_cnt : rd (round1 V) main_v15_1 = addi (rd V main_v15_1) (constantI S_ 32 1#32) := by
  simp only [rd, round1, afterL_cons, afterL_nil]
  after_results_simp_entrywise
  rfl

/-- The average moves one row on. -/
theorem round1_prev : rd (round1 V) main_v15_2 = mix1 (rowAt (rd V main_v15_0) (rd V main_v15_1)) (rd V main_v15_2) := by
  simp only [rd, round1, afterL_cons, afterL_nil]
  after_results_simp_entrywise
  rfl

/-- The new average is put in its row. -/
theorem round1_out : rd (round1 V) main_v15_3 = setRow (rd V main_v15_3) (mix1 (rowAt (rd V main_v15_0) (rd V main_v15_1)) (rd V main_v15_2)) (rd V main_v15_1) := by
  simp only [rd, round1, afterL_cons, afterL_nil]
  after_results_simp_entrywise
  rfl

/-- What the round leaves alone. -/
theorem round1_keep (b : Ref sig .tc) (hb : b ∈ ([main_arg0, main_arg1, main_arg2, main_arg3, main_arg4, main_arg5, main_arg6, main_v9, main_v11, main_v15_0] : List (Ref sig .tc))) : rd (round1 V) b = rd V b := by
  fin_cases hb <;> (simp only [rd, round1, afterL_cons, afterL_nil]; after_results_simp)

/-- The condition leaves alone what the loop carries and the arguments. -/
theorem cond1_keep (b : Ref sig .tc) (hb : b ∈ ([main_arg0, main_arg1, main_arg2, main_arg3, main_arg4, main_arg5, main_arg6, main_v9, main_v11, main_v15_0, main_v15_1, main_v15_2, main_v15_3] : List (Ref sig .tc))) : rd (condV1 V) b = rd V b := by
  fin_cases hb <;> (simp only [rd, condV1, afterL_cons, afterL_nil]; after_results_simp)

/-- The contents after loop 2's condition. -/
abbrev condV2 : Valuation τ sig (Elt F) := after cond2 V

/-- One round of loop 2: its condition, then its body. -/
abbrev round2 : Valuation τ sig (Elt F) := afterL bodyI2 (after cond2 V)

/-- The counter goes up by one. -/
theorem round2_cnt : rd (round2 V) main_v26_3 = addi (rd V main_v26_3) (constantI S_ 32 1#32) := by
  simp only [rd, round2, afterL_cons, afterL_nil]
  after_results_simp_entrywise
  rfl

/-- The hidden state moves one row on. -/
theorem round2_h : rd (round2 V) main_v26_4 = gates (projAt (rd V main_v26_0) (rd V main_v26_3)) (hproj (rd V main_v26_1) (rd V main_v26_2) (rd V main_v26_4)) (rd V main_v26_4) := by
  simp only [rd, round2, afterL_cons, afterL_nil]
  after_results_simp_entrywise
  rfl

/-- What the round leaves alone. -/
theorem round2_keep (b : Ref sig .tc) (hb : b ∈ ([main_arg0, main_arg1, main_arg2, main_arg3, main_arg4, main_arg5, main_arg6, main_v9, main_v19, main_v26_0, main_v26_1, main_v26_2] : List (Ref sig .tc))) : rd (round2 V) b = rd V b := by
  fin_cases hb <;> (simp only [rd, round2, afterL_cons, afterL_nil]; after_results_simp)

/-- The condition leaves alone what the loop carries and the arguments. -/
theorem cond2_keep (b : Ref sig .tc) (hb : b ∈ ([main_arg0, main_arg1, main_arg2, main_arg3, main_arg4, main_arg5, main_arg6, main_v9, main_v19, main_v26_0, main_v26_1, main_v26_2, main_v26_3, main_v26_4] : List (Ref sig .tc))) : rd (condV2 V) b = rd V b := by
  fin_cases hb <;> (simp only [rd, condV2, afterL_cons, afterL_nil]; after_results_simp)

/-- The contents after the stretch before loop 0, between the loops, and at the end. -/
abbrev preV : Valuation τ sig (Elt F) := afterL [pre] V
@[inherit_doc preV] abbrev midAV : Valuation τ sig (Elt F) := afterL [midA] V
@[inherit_doc preV] abbrev midBV : Valuation τ sig (Elt F) := afterL [midB] V
@[inherit_doc preV] abbrev postV : Valuation τ sig (Elt F) := afterL [postA, postM, postB] V

/-- Row 0 of a sequence. -/
def firstRow (x : C[S128x4096x64, .f32]) : C[S128x64, .f32] :=
  shapeCast S128x64 (extractStridedSlice S128x1x64 ![0, 0, 0] x slices_S128x4096x64_S128x1x64_0_0_0) shapeCasts_S128x1x64_S128x64

/-- The other rows, stacked along the first axis. -/
def restRows (x : C[S128x4096x64, .f32]) : C[S4095x128x64, .f32] :=
  transpose S4095x128x64 [1, 0, 2] (extractStridedSlice S128x4095x64 ![0, 1, 0] x slices_S128x4096x64_S128x4095x64_0_1_0)
    transposes_S128x4095x64_S4095x128x64_1_0_2

/-- A sequence from its first row and the stack of the others. -/
def joinRows (a : C[S128x64, .f32]) (b : C[S4095x128x64, .f32]) : C[S128x4096x64, .f32] :=
  concatenate S128x4096x64 1 [⟨S128x1x64, broadcastInDim S128x1x64 ![0, 2] bcast_S128x64_S128x1x64_0_2 a⟩,
    ⟨S128x4095x64, transpose S128x4095x64 [1, 0, 2] b transposes_S4095x128x64_S128x4095x64_1_0_2⟩]
    concatenates_S128x1x64_S128x4095x64_S128x4096x64_d1

/-- Columns 1 and 2 of the last row. -/
def lastCols (x : C[S128x4096x64, .f32]) : C[S128x1x2, .f32] :=
  extractStridedSlice S128x1x2 ![0, 4095, 1] x slices_S128x4096x64_S128x1x2_0_4095_1

/-- A stack of zeros. -/
def zeroStack : C[S4095x128x64, .f32] := broadcastInDim S4095x128x64 ![] bcast_S_S4095x128x64 (constant S_ .f32 0x00000000#32)

/-- The hidden state at the start. -/
def zeroH : C[S128x128, .f32] := broadcastInDim S128x128 ![] bcast_S_S128x128 (constant S_ .f32 0x00000000#32)

/-- The input projection of every row, stacked along the first axis. -/
def projAll (s : C[S128x4096x64, .f32]) (w : C[S384x64, .f32]) (b : C[S384, .f32]) : C[S4096x128x384, .f32] :=
  transpose S4096x128x384 [1, 0, 2]
    (addf (Host.dotGeneral dot_S128x4096x64_S384x64_S128x4096x384_2_1_01_0_n_n none s w)
      (broadcastInDim S128x4096x384 ![0, 1, 2] bcast_S1x1x384_S128x4096x384_0_1_2 (broadcastInDim S1x1x384 ![2] bcast_S384_S1x1x384_2 b)))
    transposes_S128x4096x384_S4096x128x384_1_0_2

/-- A constant over the result's shape. -/
def allOf (a : C[S_, .f32]) : C[S128x1x2, .f32] := broadcastInDim S128x1x2 ![] bcast_S_S128x1x2 a

/-- The result from the last hidden state, the two averages' last rows and the last layer's weights. -/
def finish (h : C[S128x128, .f32]) (w : C[S2x128, .f32]) (b : C[S2, .f32]) (e1 e2 : C[S128x1x2, .f32]) : C[S128x1x2, .f32] :=
  Host.divf
    (subf (Host.divf (subf
        (broadcastInDim S128x1x2 ![0, 2] bcast_S128x2_S128x1x2_0_2
          (addf (Host.dotGeneral dot_S128x128_S128x2_S128x2_1_0_0_1_n_n none h (transpose S128x2 [1, 0] w transposes_S2x128_S128x2_1_0))
            (broadcastInDim S128x2 ![0, 1] bcast_S1x2_S128x2_0_1 (broadcastInDim S1x2 ![1] bcast_S2_S1x2_1 b))))
        (mulf (allOf (constant S_ .f32 0x3F000000#32)) e2))
      (allOf (constant S_ .f32 0x3F000000#32)))
      (mulf (allOf (constant S_ .f32 0x3E99999A#32)) e1))
    (allOf (constant S_ .f32 0x3F333333#32))

/-- Loop 0 starts on the rows after the first. -/
theorem pre_seq : rd (preV V) main_v5_0 = restRows (rd V main_arg0) := by
  simp only [rd, preV, afterL_cons, afterL_nil]
  after_results_simp_entrywise
  rfl

/-- Loop 0 starts at 0. -/
theorem pre_cnt : rd (preV V) main_v5_1 = constantI S_ 32 0#32 := by
  simp only [rd, preV, afterL_cons, afterL_nil]
  after_results_simp_entrywise
  rfl

/-- Loop 0 starts from the first row. -/
theorem pre_prev : rd (preV V) main_v5_2 = firstRow (rd V main_arg0) := by
  simp only [rd, preV, afterL_cons, afterL_nil]
  after_results_simp_entrywise
  rfl

/-- Loop 0 fills a stack of zeros. -/
theorem pre_out : rd (preV V) main_v5_3 = zeroStack := by
  simp only [rd, preV, afterL_cons, afterL_nil]
  after_results_simp_entrywise
  rfl

/-- The first row. -/
theorem pre_first : rd (preV V) main_v1 = firstRow (rd V main_arg0) := by
  simp only [rd, preV, afterL_cons, afterL_nil]
  after_results_simp_entrywise
  rfl

/-- What the stretch leaves alone. -/
theorem pre_keep (b : Ref sig .tc) (hb : b ∈ ([main_arg0, main_arg1, main_arg2, main_arg3, main_arg4, main_arg5, main_arg6] : List (Ref sig .tc))) : rd (preV V) b = rd V b := by
  fin_cases hb <;> (simp only [rd, preV, afterL_cons, afterL_nil]; after_results_simp)

/-- Loop 1 starts on the rows after the first. -/
theorem midA_seq : rd (midAV V) main_v15_0 = restRows (joinRows (rd V main_v1) (rd V main_v5_3)) := by
  simp only [rd, midAV, afterL_cons, afterL_nil]
  after_results_simp_entrywise
  rfl

/-- Loop 1 starts at 0. -/
theorem midA_cnt : rd (midAV V) main_v15_1 = constantI S_ 32 0#32 := by
  simp only [rd, midAV, afterL_cons, afterL_nil]
  after_results_simp_entrywise
  rfl

/-- Loop 1 starts from the first row. -/
theorem midA_prev : rd (midAV V) main_v15_2 = firstRow (joinRows (rd V main_v1) (rd V main_v5_3)) := by
  simp only [rd, midAV, afterL_cons, afterL_nil]
  after_results_simp_entrywise
  rfl

/-- Loop 1 fills a stack of zeros. -/
theorem midA_out : rd (midAV V) main_v15_3 = zeroStack := by
  simp only [rd, midAV, afterL_cons, afterL_nil]
  after_results_simp_entrywise
  rfl

/-- The first row. -/
theorem midA_first : rd (midAV V) main_v11 = firstRow (joinRows (rd V main_v1) (rd V main_v5_3)) := by
  simp only [rd, midAV, afterL_cons, afterL_nil]
  after_results_simp_entrywise
  rfl

/-- The first average's last row. -/
theorem midA_last : rd (midAV V) main_v9 = lastCols (joinRows (rd V main_v1) (rd V main_v5_3)) := by
  simp only [rd, midAV, afterL_cons, afterL_nil]
  after_results_simp_entrywise
  rfl

/-- What the stretch leaves alone. -/
theorem midA_keep (b : Ref sig .tc) (hb : b ∈ ([main_arg0, main_arg1, main_arg2, main_arg3, main_arg4, main_arg5, main_arg6] : List (Ref sig .tc))) : rd (midAV V) b = rd V b := by
  fin_cases hb <;> (simp only [rd, midAV, afterL_cons, afterL_nil]; after_results_simp)

/-- Loop 2 starts on the projected rows. -/
theorem midB_seq : rd (midBV V) main_v26_0 = projAll (joinRows (rd V main_v11) (rd V main_v15_3)) (rd V main_arg1) (rd V main_arg3) := by
  simp only [rd, midBV, afterL_cons, afterL_nil]
  after_results_simp_entrywise
  rfl

/-- Loop 2 carries the recurrent weights. -/
theorem midB_w : rd (midBV V) main_v26_1 = rd V main_arg2 := by
  simp only [rd, midBV, afterL_cons, afterL_nil]
  after_results_simp_entrywise
  rfl

/-- Loop 2 carries the recurrent bias. -/
theorem midB_b : rd (midBV V) main_v26_2 = rd V main_arg4 := by
  simp only [rd, midBV, afterL_cons, afterL_nil]
  after_results_simp_entrywise
  rfl

/-- Loop 2 starts at 0. -/
theorem midB_cnt : rd (midBV V) main_v26_3 = constantI S_ 32 0#32 := by
  simp only [rd, midBV, afterL_cons, afterL_nil]
  after_results_simp_entrywise
  rfl

/-- Loop 2 starts from zero. -/
theorem midB_h : rd (midBV V) main_v26_4 = zeroH := by
  simp only [rd, midBV, afterL_cons, afterL_nil]
  after_results_simp_entrywise
  rfl

/-- The second average's last row. -/
theorem midB_last : rd (midBV V) main_v19 = lastCols (joinRows (rd V main_v11) (rd V main_v15_3)) := by
  simp only [rd, midBV, afterL_cons, afterL_nil]
  after_results_simp_entrywise
  rfl

/-- What the stretch leaves alone. -/
theorem midB_keep (b : Ref sig .tc) (hb : b ∈ ([main_arg0, main_arg1, main_arg2, main_arg3, main_arg4, main_arg5, main_arg6, main_v9] : List (Ref sig .tc))) : rd (midBV V) b = rd V b := by
  fin_cases hb <;> (simp only [rd, midBV, afterL_cons, afterL_nil]; after_results_simp)

/-- The result. -/
theorem post_res : rd (postV V) main_v42 = finish (rd V main_v26_4) (rd V main_arg5) (rd V main_arg6) (rd V main_v9) (rd V main_v19) := by
  simp only [rd, postV, afterL_cons, afterL_nil]
  after_results_simp_entrywise
  rfl

/-- What the stretch leaves alone. -/
theorem post_keep (b : Ref sig .tc) (hb : b ∈ ([main_arg0, main_arg1, main_arg2, main_arg3, main_arg4, main_arg5, main_arg6] : List (Ref sig .tc))) : rd (postV V) b = rd V b := by
  fin_cases hb <;> (simp only [rd, postV, afterL_cons, afterL_nil]; after_results_simp)

end Cert.ReferenceIdeal.Hand
-- ==== Proof.RefTrips.lean ====
module

public import proofs.«01_k».proof.Proof.RefStep

/- What the reference's loops hold at each trip, by induction on the trip, and the value @main ends with. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The contents of a buffer of this type. -/
local notation "C[" s ", " e "]" => BufTy.Contents (Elt F) ⟨s, e⟩

/-- The counter at trip `k`. -/
def cnt (k : ℕ) : C[S_, .i32] := constantI S_ 32 (BitVec.ofNat 32 k)

/-- One more than the counter at trip `k` is the counter at the next trip. -/
theorem cnt_succ (k : ℕ) : addi (cnt (F := F) k) (constantI S_ 32 1#32) = cnt (F := F) (k + 1) := by
  funext i
  show BitVec.ofNat 32 k + 1#32 = BitVec.ofNat 32 (k + 1)
  exact (BitVec.ofNat_add k 1).symm

/-- An average after `k` of the stacked rows. -/
def avgAt (step : C[S128x64, .f32] → C[S128x64, .f32] → C[S128x64, .f32]) (x : C[S4095x128x64, .f32]) (a : C[S128x64, .f32]) : ℕ → C[S128x64, .f32]
  | 0 => a
  | k + 1 => step (rowAt x (cnt (F := F) k)) (avgAt step x a k)

/-- The stack of averages once `k` of its rows are filled. -/
def outAt (step : C[S128x64, .f32] → C[S128x64, .f32] → C[S128x64, .f32]) (x : C[S4095x128x64, .f32]) (a : C[S128x64, .f32]) : ℕ → C[S4095x128x64, .f32]
  | 0 => zeroStack
  | k + 1 => setRow (outAt step x a k) (avgAt step x a (k + 1)) (cnt (F := F) k)

/-- The hidden state after `k` projected rows. -/
def hAt (p : C[S4096x128x384, .f32]) (w : C[S384x128, .f32]) (b : C[S384, .f32]) : ℕ → C[S128x128, .f32]
  | 0 => zeroH
  | k + 1 => gates (projAt p (cnt (F := F) k)) (hproj w b (hAt p w b k)) (hAt p w b k)

/-- A sequence's averages, as a sequence: the first row, then the filled stack. -/
def smoothed (step : C[S128x64, .f32] → C[S128x64, .f32] → C[S128x64, .f32]) (x : C[S128x4096x64, .f32]) : C[S128x4096x64, .f32] :=
  joinRows (firstRow x) (outAt step (restRows x) (firstRow x) 4095)

/-- What the reference computes from its arguments. -/
def value (x : C[S128x4096x64, .f32]) (wih : C[S384x64, .f32]) (whh : C[S384x128, .f32]) (bih bhh : C[S384, .f32]) (wfc : C[S2x128, .f32])
    (bfc : C[S2, .f32]) : C[S128x1x2, .f32] :=
  finish (hAt (projAll (smoothed mix1 (smoothed mix0 x)) wih bih) whh bhh 4096) wfc bfc (lastCols (smoothed mix0 x))
    (lastCols (smoothed mix1 (smoothed mix0 x)))

variable (V : Dev nD → Valuation τ sig (Elt F)) (c : Dev nD)

/-- The contents at loop 0's trip `k`, entered at `V`. -/
abbrev trip0 (k : ℕ) : Dev nD → Valuation τ sig (Elt F) := atTrip cond0 bodyI0 V k

/-- What loop 0 leaves alone, at every trip. -/
theorem trip0_keep (b : Ref sig .tc) (hb : b ∈ ([main_arg0, main_arg1, main_arg2, main_arg3, main_arg4, main_arg5, main_arg6, main_v1, main_v5_0] : List (Ref sig .tc))) (k : ℕ) :
    rd (trip0 V k c) b = rd (V c) b := by
  induction k with
  | zero => rfl
  | succ k ih => exact (round0_keep (trip0 V k c) b hb).trans ih

/-- Loop 0's counter at trip `k`. -/
theorem trip0_cnt (h : rd (V c) main_v5_1 = constantI S_ 32 0#32) (k : ℕ) : rd (trip0 V k c) main_v5_1 = cnt (F := F) k := by
  induction k with
  | zero => exact h
  | succ k ih => exact (round0_cnt (trip0 V k c)).trans ((congrArg (fun i => addi i (constantI S_ 32 1#32)) ih).trans (cnt_succ k))

/-- Loop 0's average at trip `k`. -/
theorem trip0_prev (h : rd (V c) main_v5_1 = constantI S_ 32 0#32) (k : ℕ) :
    rd (trip0 V k c) main_v5_2 = avgAt mix0 (rd (V c) main_v5_0) (rd (V c) main_v5_2) k := by
  induction k with
  | zero => rfl
  | succ k ih =>
    refine (round0_prev (trip0 V k c)).trans ?_
    rw [ih, trip0_cnt V c h k, trip0_keep V c main_v5_0 (by decide) k]
    rfl

/-- Loop 0's stack at trip `k`. -/
theorem trip0_out (h : rd (V c) main_v5_1 = constantI S_ 32 0#32) (h0 : rd (V c) main_v5_3 = zeroStack) (k : ℕ) :
    rd (trip0 V k c) main_v5_3 = outAt mix0 (rd (V c) main_v5_0) (rd (V c) main_v5_2) k := by
  induction k with
  | zero => exact h0
  | succ k ih =>
    refine (round0_out (trip0 V k c)).trans ?_
    rw [ih, trip0_cnt V c h k, trip0_prev V c h k, trip0_keep V c main_v5_0 (by decide) k]
    rfl

/-- The contents at loop 1's trip `k`, entered at `V`. -/
abbrev trip1 (k : ℕ) : Dev nD → Valuation τ sig (Elt F) := atTrip cond1 bodyI1 V k

/-- What loop 1 leaves alone, at every trip. -/
theorem trip1_keep (b : Ref sig .tc) (hb : b ∈ ([main_arg0, main_arg1, main_arg2, main_arg3, main_arg4, main_arg5, main_arg6, main_v9, main_v11, main_v15_0] : List (Ref sig .tc))) (k : ℕ) :
    rd (trip1 V k c) b = rd (V c) b := by
  induction k with
  | zero => rfl
  | succ k ih => exact (round1_keep (trip1 V k c) b hb).trans ih

/-- Loop 1's counter at trip `k`. -/
theorem trip1_cnt (h : rd (V c) main_v15_1 = constantI S_ 32 0#32) (k : ℕ) : rd (trip1 V k c) main_v15_1 = cnt (F := F) k := by
  induction k with
  | zero => exact h
  | succ k ih => exact (round1_cnt (trip1 V k c)).trans ((congrArg (fun i => addi i (constantI S_ 32 1#32)) ih).trans (cnt_succ k))

/-- Loop 1's average at trip `k`. -/
theorem trip1_prev (h : rd (V c) main_v15_1 = constantI S_ 32 0#32) (k : ℕ) :
    rd (trip1 V k c) main_v15_2 = avgAt mix1 (rd (V c) main_v15_0) (rd (V c) main_v15_2) k := by
  induction k with
  | zero => rfl
  | succ k ih =>
    refine (round1_prev (trip1 V k c)).trans ?_
    rw [ih, trip1_cnt V c h k, trip1_keep V c main_v15_0 (by decide) k]
    rfl

/-- Loop 1's stack at trip `k`. -/
theorem trip1_out (h : rd (V c) main_v15_1 = constantI S_ 32 0#32) (h0 : rd (V c) main_v15_3 = zeroStack) (k : ℕ) :
    rd (trip1 V k c) main_v15_3 = outAt mix1 (rd (V c) main_v15_0) (rd (V c) main_v15_2) k := by
  induction k with
  | zero => exact h0
  | succ k ih =>
    refine (round1_out (trip1 V k c)).trans ?_
    rw [ih, trip1_cnt V c h k, trip1_prev V c h k, trip1_keep V c main_v15_0 (by decide) k]
    rfl

/-- The contents at loop 2's trip `k`, entered at `V`. -/
abbrev trip2 (k : ℕ) : Dev nD → Valuation τ sig (Elt F) := atTrip cond2 bodyI2 V k

/-- What loop 2 leaves alone, at every trip. -/
theorem trip2_keep (b : Ref sig .tc) (hb : b ∈ ([main_arg0, main_arg1, main_arg2, main_arg3, main_arg4, main_arg5, main_arg6, main_v9, main_v19, main_v26_0, main_v26_1, main_v26_2] : List (Ref sig .tc))) (k : ℕ) :
    rd (trip2 V k c) b = rd (V c) b := by
  induction k with
  | zero => rfl
  | succ k ih => exact (round2_keep (trip2 V k c) b hb).trans ih

/-- Loop 2's counter at trip `k`. -/
theorem trip2_cnt (h : rd (V c) main_v26_3 = constantI S_ 32 0#32) (k : ℕ) : rd (trip2 V k c) main_v26_3 = cnt (F := F) k := by
  induction k with
  | zero => exact h
  | succ k ih => exact (round2_cnt (trip2 V k c)).trans ((congrArg (fun i => addi i (constantI S_ 32 1#32)) ih).trans (cnt_succ k))

/-- Loop 2's hidden state at trip `k`. -/
theorem trip2_h (h : rd (V c) main_v26_3 = constantI S_ 32 0#32) (h0 : rd (V c) main_v26_4 = zeroH) (k : ℕ) :
    rd (trip2 V k c) main_v26_4 = hAt (rd (V c) main_v26_0) (rd (V c) main_v26_1) (rd (V c) main_v26_2) k := by
  induction k with
  | zero => exact h0
  | succ k ih =>
    refine (round2_h (trip2 V k c)).trans ?_
    rw [ih, trip2_cnt V c h k, trip2_keep V c main_v26_0 (by decide) k, trip2_keep V c main_v26_1 (by decide) k, trip2_keep V c main_v26_2 (by decide) k]
    rfl

/-- The contents at loop 0's entry, from those at @main's start. -/
abbrev in0 : Dev nD → Valuation τ sig (Elt F) := fun c => preV (V c)
/-- The contents at loop 0's exit. -/
abbrev out0 : Dev nD → Valuation τ sig (Elt F) := fun c => condV0 (trip0 (in0 V) 4095 c)
/-- The contents at loop 1's entry. -/
abbrev in1 : Dev nD → Valuation τ sig (Elt F) := fun c => midAV (out0 V c)
/-- The contents at loop 1's exit. -/
abbrev out1 : Dev nD → Valuation τ sig (Elt F) := fun c => condV1 (trip1 (in1 V) 4095 c)
/-- The contents at loop 2's entry. -/
abbrev in2 : Dev nD → Valuation τ sig (Elt F) := fun c => midBV (out1 V c)
/-- The contents at loop 2's exit. -/
abbrev out2 : Dev nD → Valuation τ sig (Elt F) := fun c => condV2 (trip2 (in2 V) 4096 c)
/-- The contents at @main's end. -/
abbrev final : Dev nD → Valuation τ sig (Elt F) := fun c => postV (out2 V c)

/-- @main's arguments. -/
abbrev argRefs : List (Ref sig .tc) := [main_arg0, main_arg1, main_arg2, main_arg3, main_arg4, main_arg5, main_arg6]

/-- The arguments are as they were at loop 0's exit. -/
theorem out0_arg (b : Ref sig .tc) (hb : b ∈ argRefs) : rd (out0 V c) b = rd (V c) b :=
  (cond0_keep _ b (List.mem_append_left _ hb)).trans ((trip0_keep (in0 V) c b (List.mem_append_left _ hb) _).trans (pre_keep _ b hb))

/-- The arguments are as they were at loop 1's exit. -/
theorem out1_arg (b : Ref sig .tc) (hb : b ∈ argRefs) : rd (out1 V c) b = rd (V c) b :=
  (cond1_keep _ b (List.mem_append_left _ hb)).trans ((trip1_keep (in1 V) c b (List.mem_append_left _ hb) _).trans ((midA_keep _ b hb).trans (out0_arg V c b hb)))

/-- The arguments are as they were at loop 2's exit. -/
theorem out2_arg (b : Ref sig .tc) (hb : b ∈ argRefs) : rd (out2 V c) b = rd (V c) b :=
  (cond2_keep _ b (List.mem_append_left _ hb)).trans ((trip2_keep (in2 V) c b (List.mem_append_left _ hb) _).trans
    ((midB_keep _ b (List.mem_append_left _ hb)).trans (out1_arg V c b hb)))

/-- The arguments are as they were at the end. -/
theorem final_arg (b : Ref sig .tc) (hb : b ∈ argRefs) : rd (final V c) b = rd (V c) b :=
  (post_keep _ b hb).trans (out2_arg V c b hb)

/-- The first row at loop 0's exit. -/
theorem out0_first : rd (out0 V c) main_v1 = firstRow (rd (V c) main_arg0) :=
  (cond0_keep _ main_v1 (by decide)).trans ((trip0_keep (in0 V) c main_v1 (by decide) _).trans (pre_first _))

/-- The first stack of averages at loop 0's exit. -/
theorem out0_stack : rd (out0 V c) main_v5_3 = outAt mix0 (restRows (rd (V c) main_arg0)) (firstRow (rd (V c) main_arg0)) 4095 := by
  refine (cond0_keep _ main_v5_3 (by decide)).trans ((trip0_out (in0 V) c (pre_cnt _) (pre_out _) _).trans ?_)
  rw [pre_seq, pre_prev]

/-- The first averages, joined, at loop 0's exit. -/
theorem out0_joined : joinRows (rd (out0 V c) main_v1) (rd (out0 V c) main_v5_3) = smoothed mix0 (rd (V c) main_arg0) := by
  rw [out0_first, out0_stack]
  rfl

/-- The first row of the first averages at loop 1's exit. -/
theorem out1_first : rd (out1 V c) main_v11 = firstRow (smoothed mix0 (rd (V c) main_arg0)) := by
  refine (cond1_keep _ main_v11 (by decide)).trans ((trip1_keep (in1 V) c main_v11 (by decide) _).trans ((midA_first _).trans ?_))
  rw [out0_joined]

/-- The first averages' last row at loop 1's exit. -/
theorem out1_last : rd (out1 V c) main_v9 = lastCols (smoothed mix0 (rd (V c) main_arg0)) := by
  refine (cond1_keep _ main_v9 (by decide)).trans ((trip1_keep (in1 V) c main_v9 (by decide) _).trans ((midA_last _).trans ?_))
  rw [out0_joined]

/-- The second averages, joined, at loop 1's exit. -/
theorem out1_joined : joinRows (rd (out1 V c) main_v11) (rd (out1 V c) main_v15_3) = smoothed mix1 (smoothed mix0 (rd (V c) main_arg0)) := by
  have h : rd (out1 V c) main_v15_3 = outAt mix1 (restRows (smoothed mix0 (rd (V c) main_arg0))) (firstRow (smoothed mix0 (rd (V c) main_arg0))) 4095 := by
    refine (cond1_keep _ main_v15_3 (by decide)).trans ((trip1_out (in1 V) c (midA_cnt _) (midA_out _) _).trans ?_)
    rw [midA_seq, midA_prev, out0_joined]
  rw [out1_first, h]
  rfl

/-- The hidden state at loop 2's exit. -/
theorem out2_h : rd (out2 V c) main_v26_4
    = hAt (projAll (smoothed mix1 (smoothed mix0 (rd (V c) main_arg0))) (rd (V c) main_arg1) (rd (V c) main_arg3)) (rd (V c) main_arg2) (rd (V c) main_arg4) 4096 := by
  refine (cond2_keep _ main_v26_4 (by decide)).trans ((trip2_h (in2 V) c (midB_cnt _) (midB_h _) _).trans ?_)
  rw [midB_seq, midB_w, midB_b, out1_joined, out1_arg V c main_arg1 (by decide), out1_arg V c main_arg2 (by decide), out1_arg V c main_arg3 (by decide),
    out1_arg V c main_arg4 (by decide)]

/-- The first averages' last row at loop 2's exit. -/
theorem out2_last0 : rd (out2 V c) main_v9 = lastCols (smoothed mix0 (rd (V c) main_arg0)) :=
  (cond2_keep _ main_v9 (by decide)).trans ((trip2_keep (in2 V) c main_v9 (by decide) _).trans ((midB_keep _ main_v9 (by decide)).trans (out1_last V c)))

/-- The second averages' last row at loop 2's exit. -/
theorem out2_last1 : rd (out2 V c) main_v19 = lastCols (smoothed mix1 (smoothed mix0 (rd (V c) main_arg0))) := by
  refine (cond2_keep _ main_v19 (by decide)).trans ((trip2_keep (in2 V) c main_v19 (by decide) _).trans ((midB_last _).trans ?_))
  rw [out1_joined]

/-- The result at @main's end is the value of the arguments at its start. -/
theorem final_res : rd (final V c) main_v42
    = value (rd (V c) main_arg0) (rd (V c) main_arg1) (rd (V c) main_arg2) (rd (V c) main_arg3) (rd (V c) main_arg4) (rd (V c) main_arg5) (rd (V c) main_arg6) := by
  refine (post_res _).trans ?_
  rw [out2_h, out2_last0, out2_last1, out2_arg V c main_arg5 (by decide), out2_arg V c main_arg6 (by decide)]
  rfl

end Cert.ReferenceIdeal.Hand
-- ==== Proof.RefRun.lean ====
module

public import proofs.«01_k».proof.Proof.RefTrips
public import Idealize.ShloMosaic.Lib.Pipeline.Quiescent
public import Idealize.ShloMosaic.Lib.Quiescent
public import Idealize.ShloMosaic.Lib.Claim

/- The run of the reference: its three loops' tests, its segments, and what every buffer holds at the end. -/

@[expose] public section

set_option maxRecDepth 16384

noncomputable section

set_option Elab.async false

namespace Cert.ReferenceIdeal.Hand

open Cert.ReferenceIdeal Cert.ReferenceIdeal.Gen
open Idealize.ShloMosaic Idealize.ShloMosaic.TcCoe Idealize.SL Idealize.SL.Sem Idealize.SL.RA Idealize.ShloMosaic.StableHlo
open Idealize.SL.BI (sProp bigSep bigSep_sep')
open scoped Idealize.SL.BI
open Idealize.SL.BI.BIBase Idealize.SL.BI.Laws Idealize.SL.ProofMode
open Idealize.ShloMosaic.Pipeline (CSeg Ticket ucRefs sub_ucRefs)

variable {F : FTy → Type} [FloatOps F]

/-- The propositions the run is proved in; no ghost state is used. -/
local notation "𝕄" => MT nD τ sig Unit (Elt F) ℕ (Option PUnit) ℕ

/-- No pipeline is launched, so none needs admitting. -/
abbrev noAdm : (p : Fin 0) → (pcfgs (F := F) p).Adm := fun p => p.elim0

/-- No pipeline is launched, so there is no ticket. -/
abbrev noTk : Fin 0 → Ticket (Ix := Unit) (Name := ℕ) (U := Option PUnit) (Lvl := ℕ) (nD := nD) (τ := τ) (pcfgs (F := F)) noAdm := fun j => j.elim0

/-- No semaphore has a level. -/
abbrev noLev : GSem nD τ sig → Finset Unit := fun _ => ∅

/-- The level of a semaphore, unused. -/
abbrev lev : GSem nD τ sig → Unit → ℕ := fun _ _ => 0

/-- Carried beside the buffers: the core owes nothing. -/
abbrev Rest (c : Dev nD) : sProp 𝕄 := iprop(∃ W, owes (c : Thread nD τ) (0 : CellTallies nD τ sig Unit) W)

/-- A counter not past 4096 is below a bound as a word exactly when it is as a number. -/
theorem below (k n : ℕ) (hk : k ≤ 4096) (hn : n ≤ 4096) : IntOp.cmpi .slt (BitVec.ofNat 32 k) (BitVec.ofNat 32 n) = 1#1 ↔ k < n := by
  have e : ∀ j : ℕ, j ≤ 4096 → (BitVec.ofNat 32 j).toInt = (j : ℤ) := fun j hj => by
    rw [BitVec.toInt_eq_toNat_cond, BitVec.toNat_ofNat, Nat.mod_eq_of_lt (by omega)]
    split <;> omega
  show BitVec.ofBool (decide ((BitVec.ofNat 32 k).toInt < (BitVec.ofNat 32 n).toInt)) = 1#1 ↔ k < n
  rw [e k hk, e n hn]
  by_cases h : k < n
  · simp [h]
  · simp [h]

/-- Loop 0's test passes 4095 times, given that its counter starts at 0. -/
theorem test0 (W : Dev nD → Valuation τ sig (Elt F)) (h : ∀ c, rd (W c) main_v5_1 = constantI S_ 32 0#32) :
    LoopCond (pcfgs (F := F)) defs₀ Variants.none loops Rest main_while0_cond cond0 bodyI0 W 4095 := by
  intro k hk c bd
  have hc : trip0 W k c (Proc.devRef .tc main_v5_1) = cnt (F := F) k := trip0_cnt W c (h c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  unfold HostLoop.elt
  rw [wp_ret]
  imodintro
  isplitr
  · ipureintro
    show Iff (IntOp.cmpi .slt (HloOp.result _ (trip0 W k c) (Proc.devRef .tc main_v5_1) HostLoop.idx0)
      (HloOp.result _ (trip0 W k c) (Proc.devRef .tc main_while0c_c_11) HostLoop.idx0) = 1#1) (k < 4095)
    rw [nullary_result_ne _ _ _ _ (by decide), nullary_result, hc]
    exact below k 4095 (by omega) (by omega)
  isplitl [Hb]; · iexact Hb
  isplitl [Hh]
  · rw [after_cons, after_cons, after_nil]; iexact Hh
  iexact HR

/-- Loop 1's test passes 4095 times, given that its counter starts at 0. -/
theorem test1 (W : Dev nD → Valuation τ sig (Elt F)) (h : ∀ c, rd (W c) main_v15_1 = constantI S_ 32 0#32) :
    LoopCond (pcfgs (F := F)) defs₀ Variants.none loops Rest main_while1_cond cond1 bodyI1 W 4095 := by
  intro k hk c bd
  have hc : trip1 W k c (Proc.devRef .tc main_v15_1) = cnt (F := F) k := trip1_cnt W c (h c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  unfold HostLoop.elt
  rw [wp_ret]
  imodintro
  isplitr
  · ipureintro
    show Iff (IntOp.cmpi .slt (HloOp.result _ (trip1 W k c) (Proc.devRef .tc main_v15_1) HostLoop.idx0)
      (HloOp.result _ (trip1 W k c) (Proc.devRef .tc main_while1c_c_11) HostLoop.idx0) = 1#1) (k < 4095)
    rw [nullary_result_ne _ _ _ _ (by decide), nullary_result, hc]
    exact below k 4095 (by omega) (by omega)
  isplitl [Hb]; · iexact Hb
  isplitl [Hh]
  · rw [after_cons, after_cons, after_nil]; iexact Hh
  iexact HR

/-- Loop 2's test passes 4096 times, given that its counter starts at 0. -/
theorem test2 (W : Dev nD → Valuation τ sig (Elt F)) (h : ∀ c, rd (W c) main_v26_3 = constantI S_ 32 0#32) :
    LoopCond (pcfgs (F := F)) defs₀ Variants.none loops Rest main_while2_cond cond2 bodyI2 W 4096 := by
  intro k hk c bd
  have hc : trip2 W k c (Proc.devRef .tc main_v26_3) = cnt (F := F) k := trip2_cnt W c (h c) k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  unfold HostLoop.elt
  rw [wp_ret]
  imodintro
  isplitr
  · ipureintro
    show Iff (IntOp.cmpi .slt (HloOp.result _ (trip2 W k c) (Proc.devRef .tc main_v26_3) HostLoop.idx0)
      (HloOp.result _ (trip2 W k c) (Proc.devRef .tc main_while2c_c_12) HostLoop.idx0) = 1#1) (k < 4096)
    rw [nullary_result_ne _ _ _ _ (by decide), nullary_result, hc]
    exact below k 4096 (by omega) (by omega)
  isplitl [Hb]; · iexact Hb
  isplitl [Hh]
  · rw [after_cons, after_cons, after_nil]; iexact Hh
  iexact HR

variable (m : (ℓ : Loc nD τ sig) → Buf (Elt F) ℓ)

/-- The contents at @main's start. -/
abbrev start : Dev nD → Valuation τ sig (Elt F) := launchContents m

/-- Loop 0 as a segment. -/
abbrev seg0 : CSeg (pcfgs (F := F)) noAdm defs₀ Variants.none noLev lev loops noTk :=
  loopSeg _ _ _ _ _ _ _ _ 0 main_while0_cond main_while0_body rfl cond0 bodyI0 body0_plain body0_chain 4095 (in0 (start m)) Rest (test0 _ fun _ => pre_cnt _)

/-- Loop 1 as a segment. -/
abbrev seg1 : CSeg (pcfgs (F := F)) noAdm defs₀ Variants.none noLev lev loops noTk :=
  loopSeg _ _ _ _ _ _ _ _ 1 main_while1_cond main_while1_body rfl cond1 bodyI1 body1_plain body1_chain 4095 (in1 (start m)) Rest (test1 _ fun _ => midA_cnt _)

/-- Loop 2 as a segment. -/
abbrev seg2 : CSeg (pcfgs (F := F)) noAdm defs₀ Variants.none noLev lev loops noTk :=
  loopSeg _ _ _ _ _ _ _ _ 2 main_while2_cond main_while2_body rfl cond2 bodyI2 body2_plain body2_chain 4096 (in2 (start m)) Rest (test2 _ fun _ => midB_cnt _)

/-- A stretch of @main as segments. -/
abbrev stretch (items : List (List (HloOp τ sig (Elt F)))) (h : Plain items) (V : Dev nD → Valuation τ sig (Elt F)) :
    List (CSeg (pcfgs (F := F)) noAdm defs₀ Variants.none noLev lev loops noTk) := segsOf _ _ _ _ _ _ _ _ Rest items h V

/-- @main's segments. -/
def allSegs : List (CSeg (pcfgs (F := F)) noAdm defs₀ Variants.none noLev lev loops noTk) :=
  stretch [pre] pre_plain (start m) ++ seg0 m :: (stretch [midA] midA_plain (out0 (start m)) ++ seg1 m ::
    (stretch [midB] midB_plain (out1 (start m)) ++ seg2 m :: stretch [postA, postM, postB] post_plain (out2 (start m))))

/-- The segments' programs are @main's items. -/
theorem allSegs_prog : (allSegs m).map CSeg.prog = [seq pre, HostLoop.enter 0, seq midA, HostLoop.enter 1, seq midB, HostLoop.enter 2,
    seq postA, seq postM, seq postB] := by
  unfold allSegs stretch
  simp only [List.map_append, List.map_cons, segsOf_prog]
  rfl

/-- The segments lead from the contents at the start to those at the end. -/
theorem allSegs_chains : CSeg.Chains (fun c => iprop(held (c : Thread nD τ) (ucRefs τ sig) (start m c) ∗ Rest c)) (allSegs m)
    (fun c => iprop(held (c : Thread nD τ) (ucRefs τ sig) (final (start m) c) ∗ ∃ W, owes (c : Thread nD τ) (0 : CellTallies nD τ sig Unit) W)) :=
  CSeg.Chains.append (segsOf_chains _ _ _ _ _ _ _ _ Rest [pre] pre_plain _) ⟨fun _ => .rfl,
    CSeg.Chains.append (segsOf_chains _ _ _ _ _ _ _ _ Rest [midA] midA_plain _) ⟨fun _ => .rfl,
      CSeg.Chains.append (segsOf_chains _ _ _ _ _ _ _ _ Rest [midB] midB_plain _) ⟨fun _ => .rfl,
        segsOf_chains _ _ _ _ _ _ _ _ Rest [postA, postM, postB] post_plain _⟩⟩⟩

/-- The run: from any memory with zero counters @main ends with every buffer at its contents at the end. -/
theorem run_main (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = rd (final (start m) c) b) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noLev lev loops noTk m ρ main (allSegs m)
    (fun c Q => by
      rw [main_chain c]
      show wp _ _ _ (Pipeline.chain ((allSegs m).map CSeg.prog)) Q ⊢ _
      rw [allSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (start m c) ∗ Rest c))
    (Tₙ := fun c => iprop(held (c : Thread nD τ) (ucRefs τ sig) (final (start m) c)))
    (hch := allSegs_chains m)
    (hinit := by
      refine Pipeline.initEach noLev lev fun c => ?_
      rw [show unscopedBufs c (fun b => m ((c : Thread nD τ).loc b)) = held (c : Thread nD τ) (ucRefs τ sig) (start m c) from Pipeline.unscopedBufs_held c (start m c)]
      iintro ⟨⟨Hh, -, HO, -, -, -⟩, -⟩
      imodintro
      isplitl [Hh]; · iexact Hh
      iexists ∅
      iexact HO)
    (QY := fun c s => ∀ b ∈ ucRefs τ sig, s.mem ((c : Dev nD), b) = final (start m) c b)
    (hfin := fun c s' => by
      unfold held
      iintro ⟨Hh, HSI⟩
      ihave Hr := (pointsTo_read_all (ucRefs τ sig) (fun b => ((c : Dev nD), b)) (fun b => final (start m) c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The run's result is the value of the arguments, and the arguments are unchanged. -/
theorem run_value (ρ : Dev nD → PrngReg) : θ_run (defs (F := F)) (onTc (τ := τ) (main (F := F))) ⟨m, fun _ => 0, ρ⟩
    (fun r => ∀ c : Dev nD,
      r.2.mem ((c.tc : Thread nD τ).loc main_v42) = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs (onTc main) ⟨m, fun _ => 0, ρ⟩).mono (fun r h c =>
    ⟨(h c main_v42 rfl).trans (final_res (start m) c),
      (h c main_arg0 rfl).trans (final_arg (start m) c main_arg0 (by decide)), (h c main_arg1 rfl).trans (final_arg (start m) c main_arg1 (by decide)),
      (h c main_arg2 rfl).trans (final_arg (start m) c main_arg2 (by decide)), (h c main_arg3 rfl).trans (final_arg (start m) c main_arg3 (by decide)),
      (h c main_arg4 rfl).trans (final_arg (start m) c main_arg4 (by decide)), (h c main_arg5 rfl).trans (final_arg (start m) c main_arg5 (by decide)),
      (h c main_arg6 rfl).trans (final_arg (start m) c main_arg6 (by decide))⟩) (run_main m ρ)

/-- The run leaves the arguments unchanged and every semaphore at zero. -/
theorem frame (ρ : Dev nD → PrngReg) : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs (onTc main) ⟨m, fun _ => 0, ρ⟩).mono (fun r h => ⟨fun c => (h c).2, sem_eq_zero_of_no_sems rfl r.2⟩) (run_value m ρ)

end Cert.ReferenceIdeal.Hand
-- ==== Proof.KernelOut.lean ====
module

public import proofs.«01_k».proof.Proof.LaunchI
public import Idealize.ShloMosaic.Lib.Pipeline.ValueKit
public import Idealize.ShloMosaic.Lib.Claim
public import Idealize.ShloMosaic.Lib.StableHlo.RunClose

/- What the kernel's arrays hold: the inputs' blocks as parts of the arguments, and the result from the two walks' blocks. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- Where the windows that move find their blocks. -/
theorem win_idx : ∀ t : Fin cfg0.N, win0_0.index t = ![min (t.val % 33) 31, t.val / 33, 0] ∧ win0_7.index t = ![t.val / 33, 0] := by
  decide +kernel

/-- The array of results after the last point: rows 0 to 63 from walk 0, the others from walk 1. -/
theorem out_array : (dats m 0 c).arrAt 7 cfg0.N = fun i : S128x2.Idx => kOut m c ((i 0).val / 64) (ix2 (Fin.ofNat 64 (i 0).val) (i 1)) := by
  refine (dats m 0 c).arrAt_eq_of_covers 7 _ (by decide +kernel) fun t hf y => ?_
  blk_simp
  rw [after0_7]
  have h0 : (y 0).val < 64 := (y 0).isLt
  have e : (win0_7.index t 0 * 64 + (y 0).val) = 64 * (t.val / 33) + (y 0).val := by rw [(win_idx t).2]; show t.val / 33 * 64 + _ = _; omega
  rw [e, show (64 * (t.val / 33) + (y 0).val) / 64 = t.val / 33 by omega]
  refine congrArg _ ?_
  blk_ext [(win_idx t).2]
  rw [Fin.val_ofNat]; omega

/-- The input as the region finds it. -/
theorem V_v0 : V m c main_v0 = transpose S4096x128x64 [1, 0, 2] (m ((c : Thread nD τ).loc main_arg0)) transposes_S128x4096x64_S4096x128x64_1_0_2 := by
  show StableHlo.after hostOps0 (fun b => m (c, b)) (Proc.devRef .tc main_v0) = _
  after_results_simp_entrywise

/-- An input block's entries are the input's. -/
theorem kX_apply (g tb : ℕ) (hg : g < 2) (y : S128x64x64.Idx) : kX m c g tb y
    = m ((c : Thread nD τ).loc main_arg0) (ix3 (Fin.ofNat 128 (64 * g + (y 1).val)) (Fin.ofNat 4096 (128 * min tb 31 + (y 0).val)) (y 2)) := by
  have hN : (33 * g + min tb 31) % 66 < cfg0.N := Nat.mod_lt _ (by decide)
  have h0 : (y 0).val < 128 := (y 0).isLt
  have h1 : (y 1).val < 64 := (y 1).isLt
  let t : Fin cfg0.N := ⟨(33 * g + min tb 31) % 66, hN⟩
  have h : kX m c g tb y = V m c main_v0 (((cfg0.win 0).blk t).view.emb y : S4096x128x64.Idx) := rfl
  rw [h, V_v0]
  pointwise
  refine congrArg _ ?_
  blk_ext [(win_idx t).1]
  · rw [Fin.val_ofNat]; show (33 * g + min tb 31) % 66 / 33 * 64 + _ = _; omega
  · rw [Fin.val_ofNat]; show min ((33 * g + min tb 31) % 66 % 33) 31 * 128 + _ = _; omega

/-- The windows of the weights start at the start. -/
theorem win_zero : win0_1.index t₀ = ![0, 0] ∧ win0_2.index t₀ = ![0, 0] ∧ win0_3.index t₀ = ![0, 0] ∧ win0_4.index t₀ = ![0, 0] ∧ win0_5.index t₀ = ![0, 0]
    ∧ win0_6.index t₀ = ![0, 0] := by decide +kernel

/-- What the region finds as the input weights. -/
theorem V_v6 : V m c main_v6 = transpose S64x384 [1, 0] (m ((c : Thread nD τ).loc main_arg1)) transposes_S384x64_S64x384_1_0 := by
  show StableHlo.after hostOps0 (fun b => m (c, b)) (Proc.devRef .tc main_v6) = _
  after_results_simp_entrywise

/-- What the region finds as the recurrent weights. -/
theorem V_v7 : V m c main_v7 = transpose S128x384 [1, 0] (m ((c : Thread nD τ).loc main_arg2)) transposes_S384x128_S128x384_1_0 := by
  show StableHlo.after hostOps0 (fun b => m (c, b)) (Proc.devRef .tc main_v7) = _
  after_results_simp_entrywise

/-- What the region finds as the input bias: the recurrent bias added on the first two thirds. -/
theorem V_v8 : V m c main_v8 = shapeCast S1x384 (addf (m ((c : Thread nD τ).loc main_arg3))
    (concatenate S384 0 [⟨S256, extractStridedSlice S256 ![0] (m ((c : Thread nD τ).loc main_arg4)) slices_S384_S256_0⟩,
      ⟨S128, broadcastInDim S128 ![] bcast_S_S128 (constant S_ FTy.f32 0#32)⟩] concatenates_S256_S128_S384_d0)) shapeCasts_S384_S1x384 := by
  show StableHlo.after hostOps0 (fun b => m (c, b)) (Proc.devRef .tc main_v8) = _
  after_results_simp_entrywise
  rfl

/-- What the region finds as the last third of the recurrent bias. -/
theorem V_v9 : V m c main_v9 = shapeCast S1x128 (extractStridedSlice S128 ![256] (m ((c : Thread nD τ).loc main_arg4)) slices_S384_S128_256) shapeCasts_S128_S1x128 := by
  show StableHlo.after hostOps0 (fun b => m (c, b)) (Proc.devRef .tc main_v9) = _
  after_results_simp_entrywise
  rfl

/-- What the region finds as the last layer's weights. -/
theorem V_v10 : V m c main_v10 = transpose S128x2 [1, 0] (m ((c : Thread nD τ).loc main_arg5)) transposes_S2x128_S128x2_1_0 := by
  show StableHlo.after hostOps0 (fun b => m (c, b)) (Proc.devRef .tc main_v10) = _
  after_results_simp_entrywise

/-- What the region finds as the last layer's bias. -/
theorem V_v11 : V m c main_v11 = shapeCast S1x2 (m ((c : Thread nD τ).loc main_arg6)) shapeCasts_S2_S1x2 := by
  show StableHlo.after hostOps0 (fun b => m (c, b)) (Proc.devRef .tc main_v11) = _
  after_results_simp_entrywise
  rfl

/-- The body's input weights are what the region finds. -/
theorem kWih_eq : kWih m c = V m c main_v6 := by
  funext y
  have h : kWih m c y = V m c main_v6 (((cfg0.win 1).blk t₀).view.emb y : S64x384.Idx) := rfl
  rw [h]
  refine congrArg _ ?_
  blk_ext [win_zero.1]

/-- The body's recurrent weights are what the region finds. -/
theorem kWhh_eq : kWhh m c = V m c main_v7 := by
  funext y
  have h : kWhh m c y = V m c main_v7 (((cfg0.win 2).blk t₀).view.emb y : S128x384.Idx) := rfl
  rw [h]
  refine congrArg _ ?_
  blk_ext [win_zero.2.1]

/-- The body's input bias is what the region finds. -/
theorem kBp_eq : kBp m c = V m c main_v8 := by
  funext y
  have h : kBp m c y = V m c main_v8 (((cfg0.win 3).blk t₀).view.emb y : S1x384.Idx) := rfl
  rw [h]
  refine congrArg _ ?_
  blk_ext [win_zero.2.2.1]

/-- The body's recurrent bias is what the region finds. -/
theorem kBn_eq : kBn m c = V m c main_v9 := by
  funext y
  have h : kBn m c y = V m c main_v9 (((cfg0.win 4).blk t₀).view.emb y : S1x128.Idx) := rfl
  rw [h]
  refine congrArg _ ?_
  blk_ext [win_zero.2.2.2.1]

/-- The body's last weights are what the region finds. -/
theorem kWfc_eq : kWfc m c = V m c main_v10 := by
  funext y
  have h : kWfc m c y = V m c main_v10 (((cfg0.win 5).blk t₀).view.emb y : S128x2.Idx) := rfl
  rw [h]
  refine congrArg _ ?_
  blk_ext [win_zero.2.2.2.2.1]

/-- The body's last bias is what the region finds. -/
theorem kBfc_eq : kBfc m c = V m c main_v11 := by
  funext y
  have h : kBfc m c y = V m c main_v11 (((cfg0.win 6).blk t₀).view.emb y : S1x2.Idx) := rfl
  rw [h]
  refine congrArg _ ?_
  blk_ext [win_zero.2.2.2.2.2]

/-- The input weights, transposed. -/
theorem kWih_apply (k : Fin 64) (q : Fin 384) : kWih m c (ix2 k q) = m ((c : Thread nD τ).loc main_arg1) (ix2 q k) := by
  rw [kWih_eq, V_v6]
  pointwise

/-- The recurrent weights, transposed. -/
theorem kWhh_apply (k : Fin 128) (q : Fin 384) : kWhh m c (ix2 k q) = m ((c : Thread nD τ).loc main_arg2) (ix2 q k) := by
  rw [kWhh_eq, V_v7]
  pointwise

/-- The last weights, transposed. -/
theorem kWfc_apply (k : Fin 128) (q : Fin 2) : kWfc m c (ix2 k q) = m ((c : Thread nD τ).loc main_arg5) (ix2 q k) := by
  rw [kWfc_eq, V_v10]
  pointwise

/-- The last bias, as a row. -/
theorem kBfc_apply (q : Fin 2) : kBfc m c (ix2 0 q) = m ((c : Thread nD τ).loc main_arg6) (ix1 q) := by
  rw [kBfc_eq, V_v11]
  pointwise

/-- The last third of the recurrent bias, as a row. -/
theorem kBn_apply (q : Fin 128) : kBn m c (ix2 0 q) = m ((c : Thread nD τ).loc main_arg4) (ix1 ⟨256 + q.val, by omega⟩) := by
  rw [kBn_eq, V_v9]
  pointwise

/-- The input bias on the first two thirds: both biases. -/
theorem kBp_low (q : Fin 384) (h : q.val < 256) :
    kBp m c (ix2 0 q) = FloatOps.addf (m ((c : Thread nD τ).loc main_arg3) (ix1 q)) (m ((c : Thread nD τ).loc main_arg4) (ix1 q)) := by
  rw [kBp_eq, V_v8]
  pointwise
  rw [dif_pos h]

/-- The input bias on the last third: its own only. -/
theorem kBp_high (q : Fin 384) (h : 256 ≤ q.val) :
    kBp m c (ix2 0 q) = FloatOps.addf (m ((c : Thread nD τ).loc main_arg3) (ix1 q)) (FloatOps.ofBits .f32 0#32) := by
  rw [kBp_eq, V_v8]
  pointwise
  rw [dif_neg (by omega)]

/-- The kernel's result: batch row `b` from walk `b / 64`, row `b % 64` of its block. -/
def kRes : S128x1x2.Idx → F .f32 := fun i => kOut m c ((i 0).val / 64) (ix2 (Fin.ofNat 64 (i 0).val) (i 2))

/-- The host operation after the region reads the array of results. -/
theorem tail_v13 : Pipeline.afterTail₀ cfgs (dats m) 0 (V0 m) [hostOps1] c main_v13 = kRes m c := by
  unfold Pipeline.afterTail₀
  simp only [hostOps1, List.flatten_cons, List.flatten_nil, List.append_nil]
  after_results_simp_entrywise
  have h : Pipeline.withArrays (cfgs 0).spec c (V0 m c) (fun w => (dats m 0 c).arrAt w (cfgs 0).N) (Proc.tc.devRef main_v12)
      = fun i : S128x2.Idx => kOut m c ((i 0).val / 64) (ix2 (Fin.ofNat 64 (i 0).val) (i 1)) :=
    (Pipeline.withArrays_arr (cfgs 0).spec (by decide) c (V0 m c) (fun w => (dats m 0 c).arrAt w (cfgs 0).N) 7).trans (out_array m c)
  rw [h]
  funext i
  pointwise
  rfl

/-- The kernel's run ends with its result in its place, the arguments as they were. -/
theorem run_res (ρ : Dev nD → PrngReg) : θ_run defs (onTc (τ := τ) (main (F := F))) ⟨m, fun _ => 0, ρ⟩ (fun r => ∀ c : Dev nD,
    r.2.mem ((c.tc : Thread nD τ).loc main_v13) = kRes m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r h c => ?_) (θ_run_and (run_main_quiescent m ρ) (frame m ρ))
  exact ⟨((h.1.1 c).2 main_v13 (Pipeline.mem_restRefs_of main_v13 (by decide) (by decide))).trans (tail_v13 m c), h.2.1 c⟩

end Cert.KernelIdeal.Hand
-- ==== Proof.Scalars.lean ====
module

public import Idealize.ShloMosaic.Lib.Pointwise
public import Idealize.ShloMosaic.Lib.ValueIdxRank1

/- Facts about extended reals: the constants of the two programs, the logistic function by the hyperbolic tangent, an average of a value with
   itself, and the convex combination of two reals in its two spellings. -/

@[expose] public section

noncomputable section

namespace Cert.Model

open Idealize.ShloMosaic

/-- The constant `0.7` of the two programs: the nearest number of the format. -/
def c7 : EReal := Ideal.ofBits .f32 0x3F333333#32
/-- The constant `0.3` of the two programs: the nearest number of the format. -/
def c3 : EReal := Ideal.ofBits .f32 0x3E99999A#32
/-- The constant `0.5` of the two programs. -/
def c5 : EReal := Ideal.ofBits .f32 0x3F000000#32

/-- The exact value of `0.7`'s nearest number. -/
theorem c7_eq : c7 = ((11744051 / 16777216 : ℝ) : EReal) := by
  simp [c7, Ideal.ofBits, Ideal.ieee, -EReal.coe_mul]; norm_num

/-- The exact value of `0.3`'s nearest number. -/
theorem c3_eq : c3 = ((5033165 / 16777216 : ℝ) : EReal) := by
  simp [c3, Ideal.ofBits, Ideal.ieee, -EReal.coe_mul]; norm_num

/-- The exact value of `0.5`. -/
theorem c5_eq : c5 = ((1 / 2 : ℝ) : EReal) := by
  simp [c5, Ideal.ofBits, Ideal.ieee, -EReal.coe_mul]; norm_num

/-- Two positive weights that add up to one leave a value where it is, at the infinities too. -/
theorem weigh_self {a b : ℝ} (ha : 0 < a) (hb : 0 < b) (hab : a + b = 1) (x : EReal) : (a : EReal) * x + (b : EReal) * x = x := by
  induction x using EReal.rec with
  | bot => rw [EReal.coe_mul_bot_of_pos ha, EReal.bot_add]
  | coe r => rw [← EReal.coe_mul, ← EReal.coe_mul, ← EReal.coe_add, ← add_mul, hab, one_mul]
  | top => rw [EReal.coe_mul_top_of_pos ha, EReal.coe_mul_top_of_pos hb, EReal.top_add_top]

/-- The first average of a value with itself is the value. -/
theorem mix73_self (x : EReal) : c7 * x + c3 * x = x := by
  rw [c7_eq, c3_eq]
  exact weigh_self (by norm_num) (by norm_num) (by norm_num) x

/-- The second average of a value with itself is the value. -/
theorem mix55_self (x : EReal) : c5 * x + c5 * x = x := by
  rw [c5_eq]
  exact weigh_self (by norm_num) (by norm_num) (by norm_num) x

/-- On the reals, the logistic function by the hyperbolic tangent of half the argument. -/
theorem half_tanh (r : ℝ) : 1 / 2 * Real.tanh (1 / 2 * r) + 1 / 2 = (1 + Real.exp (-r))⁻¹ := by
  have h : Real.exp (-(1 / 2 * r)) = (Real.exp (1 / 2 * r))⁻¹ := Real.exp_neg _
  have h2 : Real.exp (-r) = (Real.exp (1 / 2 * r))⁻¹ * (Real.exp (1 / 2 * r))⁻¹ := by
    rw [← h, ← Real.exp_add]; congr 1; ring
  have hp : 0 < Real.exp (1 / 2 * r) := Real.exp_pos _
  rw [h2, Real.tanh_eq_sinh_div_cosh, Real.sinh_eq, Real.cosh_eq, h]
  field_simp
  ring

/-- The logistic function by the hyperbolic tangent of half the argument, at the infinities too. -/
theorem sigmoid_eq (x : EReal) : c5 * Ideal.tanh (c5 * x) + c5 = Ideal.logistic x := by
  rw [c5_eq]
  induction x using EReal.rec with
  | bot =>
    rw [EReal.coe_mul_bot_of_pos (by norm_num), Ideal.tanh_bot, Ideal.logistic_bot, ← EReal.coe_one, ← EReal.coe_neg, ← EReal.coe_mul,
      ← EReal.coe_add]
    norm_num
  | coe r => rw [← EReal.coe_mul, Ideal.tanh_coe, Ideal.logistic_coe, ← EReal.coe_mul, ← EReal.coe_add, half_tanh]
  | top =>
    rw [EReal.coe_mul_top_of_pos (by norm_num), Ideal.tanh_top, Ideal.logistic_top, ← EReal.coe_one, ← EReal.coe_mul, ← EReal.coe_add]
    norm_num

/-- The hyperbolic tangent is a real everywhere. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top]; norm_cast⟩

/-- The logistic function is a real everywhere. -/
theorem logistic_real (x : EReal) : ∃ r : ℝ, Ideal.logistic x = (r : EReal) := by
  induction x using EReal.rec with
  | bot => exact ⟨0, by rw [Ideal.logistic_bot]; norm_cast⟩
  | coe r => exact ⟨_, Ideal.logistic_coe r⟩
  | top => exact ⟨1, by rw [Ideal.logistic_top]; norm_cast⟩

/-- The convex combination of two reals, from either end. -/
theorem lerp_eq (n z h : ℝ) : (n : EReal) + z * ((h : EReal) - n) = (1 - (z : EReal)) * n + z * h := by
  rw [← EReal.coe_sub, ← EReal.coe_one, ← EReal.coe_sub, ← EReal.coe_mul, ← EReal.coe_mul, ← EReal.coe_mul, ← EReal.coe_add, ← EReal.coe_add]
  congr 1; ring

/-- That combination is a real. -/
theorem lerp_real (n z h : ℝ) : ∃ r : ℝ, (1 - (z : EReal)) * n + z * h = (r : EReal) :=
  ⟨(1 - z) * n + z * h, by push_cast; rfl⟩

end Cert.Model

end
-- ==== Proof.Model.lean ====
module

public import proofs.«01_k».proof.Proof.Scalars

/- What both programs compute for one batch row, as functions of plain sequences of extended reals. -/

@[expose] public section

noncomputable section

namespace Cert.Model

open Idealize.ShloMosaic

/-- An exponential average with the given weights: it starts at the first value. -/
def ave (a b : EReal) (x : ℕ → EReal) : ℕ → EReal
  | 0 => x 0
  | n + 1 => a * x (n + 1) + b * ave a b x n

/-- The first average. -/
def first (x : ℕ → EReal) : ℕ → EReal := ave c7 c3 x

/-- The second average: the average of the first. -/
def second (x : ℕ → EReal) : ℕ → EReal := ave c5 c5 (first x)

/-- A linear layer with a bias. -/
def affine {p q : ℕ} (w : Fin q → Fin p → EReal) (b : Fin q → EReal) (s : Fin p → EReal) (j : Fin q) : EReal := (∑ k, s k * w j k) + b j

/-- The place of unit `l` in the first third of a projection. -/
def lo (l : Fin 128) : Fin 384 := ⟨l.val, by omega⟩
/-- The place of unit `l` in the second third of a projection. -/
def mid (l : Fin 128) : Fin 384 := ⟨128 + l.val, by omega⟩
/-- The place of unit `l` in the last third of a projection. -/
def hi (l : Fin 128) : Fin 384 := ⟨256 + l.val, by omega⟩

/-- One step of the recurrence at unit `l`, from the input's projection, the state's projection and the state. -/
def gate (p g : Fin 384 → EReal) (h : Fin 128 → EReal) (l : Fin 128) : EReal :=
  (1 - Ideal.logistic (p (mid l) + g (mid l))) * Ideal.tanh (p (hi l) + Ideal.logistic (p (lo l) + g (lo l)) * g (hi l))
    + Ideal.logistic (p (mid l) + g (mid l)) * h l

/-- The state after `n` steps, from zero. -/
def hidden (w : Fin 384 → Fin 128 → EReal) (b : Fin 384 → EReal) (p : ℕ → Fin 384 → EReal) : ℕ → Fin 128 → EReal
  | 0 => fun _ => 0
  | n + 1 => gate (p n) (affine w b (hidden w b p n)) (hidden w b p n)

/-- The input's projection at each time row: of the second average. -/
def projected (x : ℕ → Fin 64 → EReal) (w : Fin 384 → Fin 64 → EReal) (b : Fin 384 → EReal) (n : ℕ) : Fin 384 → EReal :=
  affine w b fun k => second (fun i => x i k) n

/-- The averages' share taken off the last layer's value. -/
def unmix (o e1 e2 : EReal) : EReal := Ideal.div (Ideal.div (o - c5 * e2) c5 - c3 * e1) c7

/-- Column 1 or 2 of the input, for result 0 or 1. -/
def col (j : Fin 2) : Fin 64 := ⟨1 + j.val, by omega⟩

/-- Result `j` of one batch row. -/
def out (x : ℕ → Fin 64 → EReal) (wih : Fin 384 → Fin 64 → EReal) (whh : Fin 384 → Fin 128 → EReal) (bih bhh : Fin 384 → EReal) (wfc : Fin 2 → Fin 128 → EReal)
    (bfc : Fin 2 → EReal) (j : Fin 2) : EReal :=
  unmix (affine wfc bfc (hidden whh bhh (projected x wih bih) 4096) j) (first (fun i => x i (col j)) 4095) (second (fun i => x i (col j)) 4095)

/-- A step from a real state gives a real state. -/
theorem gate_real (p g : Fin 384 → EReal) (h : Fin 128 → EReal) (l : Fin 128) (hr : ∃ r : ℝ, h l = r) : ∃ r : ℝ, gate p g h l = r := by
  unfold gate
  obtain ⟨z, hz⟩ := logistic_real (p (mid l) + g (mid l))
  obtain ⟨n, hn⟩ := tanh_real (p (hi l) + Ideal.logistic (p (lo l) + g (lo l)) * g (hi l))
  obtain ⟨r, hr⟩ := hr
  rw [hz, hn, hr]
  exact lerp_real n z r

/-- The state is real at every step. -/
theorem hidden_real (w : Fin 384 → Fin 128 → EReal) (b : Fin 384 → EReal) (p : ℕ → Fin 384 → EReal) (n : ℕ) (l : Fin 128) :
    ∃ r : ℝ, hidden w b p n l = r := by
  induction n with
  | zero => exact ⟨0, EReal.coe_zero.symm⟩
  | succ n ih => exact gate_real _ _ _ _ ih

/-- The averages depend on the values up to their place only. -/
theorem ave_congr (a b : EReal) {x y : ℕ → EReal} {n : ℕ} (h : ∀ i, i ≤ n → x i = y i) : ave a b x n = ave a b y n := by
  induction n with
  | zero => exact h 0 le_rfl
  | succ n ih =>
    show a * x (n + 1) + b * ave a b x n = a * y (n + 1) + b * ave a b y n
    rw [h (n + 1) le_rfl, ih fun i hi => h i (by omega)]

/-- The first average depends on the values up to its place only. -/
theorem first_congr {x y : ℕ → EReal} {n : ℕ} (h : ∀ i, i ≤ n → x i = y i) : first x n = first y n := ave_congr _ _ h

/-- The second average depends on the values up to its place only. -/
theorem second_congr {x y : ℕ → EReal} {n : ℕ} (h : ∀ i, i ≤ n → x i = y i) : second x n = second y n :=
  ave_congr _ _ fun i hi => first_congr fun j hj => h j (by omega)

/-- The state depends on the projections stepped over only. -/
theorem hidden_congr (w : Fin 384 → Fin 128 → EReal) (b : Fin 384 → EReal) {p q : ℕ → Fin 384 → EReal} {n : ℕ} (h : ∀ i, i < n → p i = q i) :
    hidden w b p n = hidden w b q n := by
  induction n with
  | zero => rfl
  | succ n ih =>
    show gate (p n) (affine w b (hidden w b p n)) (hidden w b p n) = gate (q n) (affine w b (hidden w b q n)) (hidden w b q n)
    rw [h n (by omega), ih fun i hi => h i (by omega)]

end Cert.Model

end
-- ==== Proof.KernelRows.lean ====
module

public import proofs.«01_k».proof.Proof.StepI
public import proofs.«01_k».proof.Proof.Model

/- The kernel's arrays read at one batch row, on extended reals. -/

@[expose] public section

set_option maxRecDepth 16384

noncomputable section

namespace Cert.KernelIdeal.Hand

open Cert.KernelIdeal Cert.KernelIdeal.Gen Cert.Model
open Idealize.ShloMosaic

/-- One step of the first average at an entry. -/
theorem pay12_apply (e : Vec Ideal S64x64 .f32) (r : Vec Ideal S1x64x64 .f32) (i j : Fin 64) :
    k0_pay12 e r (ix2 i j) = c7 * r (ix3 0 i j) + c3 * e (ix2 i j) := by
  unfold k0_pay12
  pointwise
  rfl

/-- One step of the second average at an entry. -/
theorem pay13_apply (e f : Vec Ideal S64x64 .f32) (r : Vec Ideal S1x64x64 .f32) (i j : Fin 64) :
    k0_pay13 e f r (ix2 i j) = c5 * k0_pay12 e r (ix2 i j) + c5 * f (ix2 i j) := by
  unfold k0_pay13
  pointwise
  rfl

/-- The second average is what the step stores. -/
theorem pay14_apply (e f : Vec Ideal S64x64 .f32) (r : Vec Ideal S1x64x64 .f32) (i j : Fin 64) :
    k0_pay14 e f r (ix3 0 i j) = k0_pay13 e f r (ix2 i j) := by
  unfold k0_pay14
  pointwise

/-- The first average starts at the row it is given. -/
theorem pay3_apply (r : Vec Ideal S1x64x64 .f32) (i j : Fin 64) : k0_pay3 r (ix2 i j) = r (ix3 0 i j) := by
  unfold k0_pay3 k0_pay2
  pointwise

/-- The second average starts at the row it is given. -/
theorem pay4_apply (r : Vec Ideal S1x64x64 .f32) (i j : Fin 64) : k0_pay4 r (ix2 i j) = r (ix3 0 i j) := by
  unfold k0_pay4 k0_pay2
  pointwise

/-- The state starts at zero. -/
theorem pay9_apply (i : Fin 64) (j : Fin 128) : k0_pay9 (F := Ideal) (ix2 i j) = 0 := by
  unfold k0_pay9
  pointwise

/-- A step's projections, at an entry. -/
theorem pay15_apply (p : Vec Ideal S1x64x384 .f32) (i : Fin 64) (j : Fin 384) : k0_pay15 p (ix2 i j) = p (ix3 0 i j) := by
  unfold k0_pay15
  pointwise

/-- The state's projection without its bias, at an entry. -/
theorem pay16_apply (h : Vec Ideal S64x128 .f32) (w : Vec Ideal S128x384 .f32) (i : Fin 64) (j : Fin 384) :
    k0_pay16 h w (ix2 i j) = ∑ k : Fin 128, h (ix2 i k) * w (ix2 k j) := by
  unfold k0_pay16
  pointwise

/-- A block's input projections, at time row `k` of the block and batch row `i`. -/
theorem pay10_apply (s : Vec Ideal S128x64x64 .f32) (w : Vec Ideal S64x384 .f32) (b : Vec Ideal S1x384 .f32) (k : Fin 128) (i : Fin 64) (j : Fin 384) :
    k0_pay10 s w b (ix3 0 (Fin.ofNat 8192 (64 * k.val + i.val)) j) = (∑ l : Fin 64, s (ix3 k i l) * w (ix2 l j)) + b (ix2 0 j) := by
  unfold k0_pay10
  pointwise
  have hk := k.isLt
  have hi := i.isLt
  have e : (Fin.ofNat 8192 (64 * k.val + i.val)).val = 64 * k.val + i.val := by rw [Fin.val_ofNat]; omega
  refine congrArg (· + b (ix2 0 j)) (Finset.sum_congr rfl fun x _ => congrArg (fun y => s y * w (ix2 x j)) ?_)
  have e1 : (⟨(Fin.ofNat 8192 (64 * k.val + i.val)).val / 64, by omega⟩ : Fin 128) = k := Fin.ext (by show _ / 64 = _; omega)
  have e2 : (⟨(Fin.ofNat 8192 (64 * k.val + i.val)).val % 64, by omega⟩ : Fin 64) = i := Fin.ext (by show _ % 64 = _; omega)
  rw [e1, e2]

/-- The reset gate at a unit. -/
theorem pay17_apply (h : Vec Ideal S64x128 .f32) (p : Vec Ideal S1x64x384 .f32) (w : Vec Ideal S128x384 .f32) (i : Fin 64) (l : Fin 128) :
    k0_pay17 h p w (ix2 i l) = Ideal.logistic (p (ix3 0 i (lo l)) + k0_pay16 h w (ix2 i (lo l))) := by
  rw [← sigmoid_eq]
  simp only [← pay15_apply p]
  unfold k0_pay17
  pointwise
  rfl

/-- The update gate's hyperbolic tangent at a unit. -/
theorem pay18_apply (h : Vec Ideal S64x128 .f32) (p : Vec Ideal S1x64x384 .f32) (w : Vec Ideal S128x384 .f32) (i : Fin 64) (l : Fin 128) :
    k0_pay18 h p w (ix2 i l) = Ideal.tanh (c5 * (p (ix3 0 i (mid l)) + k0_pay16 h w (ix2 i (mid l)))) := by
  simp only [← pay15_apply p]
  unfold k0_pay18
  pointwise
  rfl

/-- A step of the recurrence at a unit, in the kernel's spelling. -/
theorem cell_apply (w : Vec Ideal S128x384 .f32) (bn : Vec Ideal S1x128 .f32) (p : Vec Ideal S1x64x384 .f32) (h : Vec Ideal S64x128 .f32) (i : Fin 64) (l : Fin 128) :
    cell w bn p h (ix2 i l) = (fun n z : EReal => n + z * (h (ix2 i l) - n))
      (Ideal.tanh (p (ix3 0 i (hi l)) + Ideal.logistic (p (ix3 0 i (lo l)) + k0_pay16 h w (ix2 i (lo l))) * (k0_pay16 h w (ix2 i (hi l)) + bn (ix2 0 l))))
      (Ideal.logistic (p (ix3 0 i (mid l)) + k0_pay16 h w (ix2 i (mid l)))) := by
  rw [← pay17_apply, ← sigmoid_eq, ← pay18_apply]
  simp only [← pay15_apply p]
  unfold cell k0_pay5
  pointwise
  rfl

/-- The result at an entry, from the averages, the state and the last layer. -/
theorem pay11_apply (e f : Vec Ideal S64x64 .f32) (h : Vec Ideal S64x128 .f32) (w : Vec Ideal S128x2 .f32) (b : Vec Ideal S1x2 .f32) (i : Fin 64) (j : Fin 2) :
    k0_pay11 e f h w b (ix2 i j) = unmix ((∑ k : Fin 128, h (ix2 i k) * w (ix2 k j)) + b (ix2 0 j)) (e (ix2 i (col j))) (f (ix2 i (col j))) := by
  unfold k0_pay11
  pointwise
  rfl

variable (X : ℕ → Vec Ideal S128x64x64 .f32)

/-- Feature `k` of batch row `i` along the time axis. -/
abbrev seq (i k : Fin 64) (n : ℕ) : EReal := rows X n (ix3 0 i k)

/-- The first average the kernel holds after time row `n`: the weights add up to one, so its start at the first row is that row's average. -/
theorem emas_first (i k : Fin 64) (n : ℕ) : (emas X (n + 1)).1 (ix2 i k) = first (seq X i k) n := by
  induction n with
  | zero =>
    show k0_pay12 (k0_pay3 (xAt (X 0) 0)) (rows X 0) (ix2 i k) = rows X 0 (ix3 0 i k)
    rw [pay12_apply, pay3_apply]
    exact mix73_self _
  | succ n ih =>
    show k0_pay12 (emas X (n + 1)).1 (rows X (n + 1)) (ix2 i k) = c7 * rows X (n + 1) (ix3 0 i k) + c3 * first (seq X i k) n
    rw [pay12_apply, ih]

/-- The second average the kernel holds after time row `n`. -/
theorem emas_second (i k : Fin 64) (n : ℕ) : (emas X (n + 1)).2 (ix2 i k) = second (seq X i k) n := by
  induction n with
  | zero =>
    show k0_pay13 (k0_pay3 (xAt (X 0) 0)) (k0_pay4 (xAt (X 0) 0)) (rows X 0) (ix2 i k) = rows X 0 (ix3 0 i k)
    rw [pay13_apply, pay12_apply, pay3_apply, pay4_apply]
    show c5 * (c7 * rows X 0 (ix3 0 i k) + c3 * rows X 0 (ix3 0 i k)) + c5 * rows X 0 (ix3 0 i k) = _
    rw [mix73_self, mix55_self]
  | succ n ih =>
    show k0_pay13 (emas X (n + 1)).1 (emas X (n + 1)).2 (rows X (n + 1)) (ix2 i k) = c5 * first (seq X i k) (n + 1) + c5 * second (seq X i k) n
    rw [pay13_apply, ih, ← emas_first X i k (n + 1)]
    rfl

/-- The stored second averages of a block, at time row `a` of block `tb`. -/
theorem smooth_apply (tb : ℕ) (a : Fin 128) (i k : Fin 64) :
    smooth (xAt (X tb)) (emas X (128 * tb)) (ix3 a i k) = second (seq X i k) (128 * tb + a.val) := by
  have h : smooth (xAt (X tb)) (emas X (128 * tb)) (ix3 a i k) = (eRun (xAt (X tb)) (emas X (128 * tb)) (a.val + 1)).2 (ix2 i k) := pay14_apply _ _ _ _ _
  rw [h, emas_block X tb (k := a.val + 1) (by omega)]
  exact emas_second X i k (128 * tb + a.val)

/-- The input's projection at time row `n`. -/
theorem proj_apply (wih : Vec Ideal S64x384 .f32) (bp : Vec Ideal S1x384 .f32) (n : ℕ) (i : Fin 64) (j : Fin 384) :
    qAt (proj wih bp X (n / 128)) (n % 128) (ix3 0 i j) = (∑ k : Fin 64, second (seq X i k) n * wih (ix2 k j)) + bp (ix2 0 j) := by
  have h := pay10_apply (smooth (xAt (X (n / 128))) (emas X (128 * (n / 128)))) wih bp ⟨n % 128, by omega⟩ i j
  refine h.trans ?_
  simp only [smooth_apply]
  rw [show 128 * (n / 128) + n % 128 = n by omega]

/-- A step of the recurrence in the kernel's spelling is the step: the biases are added in another order, and the new state is reached from its
    other end, which is the same for a real state. -/
theorem cell_gate (w : Vec Ideal S128x384 .f32) (bn : Vec Ideal S1x128 .f32) (p : Vec Ideal S1x64x384 .f32) (h : Vec Ideal S64x128 .f32) (i : Fin 64) (l : Fin 128)
    (W : Fin 384 → Fin 128 → EReal) (bi bh S : Fin 384 → EReal) (H : Fin 128 → EReal)
    (hw : ∀ k q, w (ix2 k q) = W q k) (hbn : bn (ix2 0 l) = bh (hi l)) (hh : ∀ k, h (ix2 i k) = H k) (hr : ∃ r : ℝ, H l = r)
    (plo : p (ix3 0 i (lo l)) = S (lo l) + (bi (lo l) + bh (lo l))) (pmid : p (ix3 0 i (mid l)) = S (mid l) + (bi (mid l) + bh (mid l)))
    (phi : p (ix3 0 i (hi l)) = S (hi l) + (bi (hi l) + 0)) :
    cell w bn p h (ix2 i l) = gate (fun q => S q + bi q) (affine W bh H) H l := by
  have hG : ∀ q, k0_pay16 h w (ix2 i q) = ∑ k, H k * W q k := fun q => by
    rw [pay16_apply]
    exact Finset.sum_congr rfl fun k _ => by rw [hh, hw]
  have e : ∀ a b c d : EReal, a + (b + c) + d = a + b + (d + c) := fun a b c d => by rw [← add_assoc, add_assoc _ c d, add_comm c d]
  rw [cell_apply, hG, hG, hG, hbn, hh, plo, pmid, phi, add_zero, e, e]
  unfold gate affine
  obtain ⟨r, hr⟩ := hr
  obtain ⟨z, hz⟩ := logistic_real (S (mid l) + bi (mid l) + (∑ k, H k * W (mid l) k + bh (mid l)))
  obtain ⟨n, hn⟩ := tanh_real (S (hi l) + bi (hi l) + Ideal.logistic (S (lo l) + bi (lo l) + (∑ k, H k * W (lo l) k + bh (lo l))) * (∑ k, H k * W (hi l) k + bh (hi l)))
  rw [hz, hn, hr]
  exact lerp_eq n z r

/-- What is known of the weights the kernel's body reads. -/
structure Weights (wih : Vec Ideal S64x384 .f32) (bp : Vec Ideal S1x384 .f32) (whh : Vec Ideal S128x384 .f32) (bn : Vec Ideal S1x128 .f32)
    (W : Fin 384 → Fin 64 → EReal) (U : Fin 384 → Fin 128 → EReal) (bi bh : Fin 384 → EReal) : Prop where
  wih : ∀ k q, wih (ix2 k q) = W q k
  whh : ∀ k q, whh (ix2 k q) = U q k
  low : ∀ q : Fin 384, q.val < 256 → bp (ix2 0 q) = bi q + bh q
  high : ∀ q : Fin 384, 256 ≤ q.val → bp (ix2 0 q) = bi q + 0
  bn : ∀ l, bn (ix2 0 l) = bh (hi l)

variable {wih : Vec Ideal S64x384 .f32} {bp : Vec Ideal S1x384 .f32} {whh : Vec Ideal S128x384 .f32} {bn : Vec Ideal S1x128 .f32}
  {W : Fin 384 → Fin 64 → EReal} {U : Fin 384 → Fin 128 → EReal} {bi bh : Fin 384 → EReal}

/-- The kernel's hidden state before time row `n`. -/
theorem hid_apply (hW : Weights wih bp whh bn W U bi bh) (i : Fin 64) (n : ℕ) (l : Fin 128) :
    hid wih bp whh bn X n (ix2 i l) = hidden U bh (projected (fun t k => seq X i k t) W bi) n l := by
  induction n generalizing l with
  | zero => exact pay9_apply i l
  | succ n ih =>
    have hp : ∀ q, qAt (proj wih bp X (n / 128)) (n % 128) (ix3 0 i q) = (∑ k : Fin 64, second (seq X i k) n * W q k) + bp (ix2 0 q) := fun q => by
      rw [proj_apply]
      exact congrArg (· + bp (ix2 0 q)) (Finset.sum_congr rfl fun k _ => by rw [hW.wih])
    refine cell_gate whh bn (qAt (proj wih bp X (n / 128)) (n % 128)) (hid wih bp whh bn X n) i l U bi bh (fun q => ∑ k : Fin 64, second (seq X i k) n * W q k)
      (hidden U bh (projected (fun t k => seq X i k t) W bi) n) hW.whh (hW.bn l) ih (hidden_real _ _ _ _ _) ?_ ?_ ?_
    · rw [hp, hW.low _ (by show l.val < 256; omega)]
    · rw [hp, hW.low _ (by show 128 + l.val < 256; omega)]
    · rw [hp, hW.high _ (by show 256 ≤ 256 + l.val; omega)]

/-- The kernel's result at batch row `i` of a walk. -/
theorem outB_apply (hW : Weights wih bp whh bn W U bi bh) (wfc : Vec Ideal S128x2 .f32) (bfc : Vec Ideal S1x2 .f32) (Wf : Fin 2 → Fin 128 → EReal) (bf : Fin 2 → EReal)
    (hf : ∀ k q, wfc (ix2 k q) = Wf q k) (hb : ∀ q, bfc (ix2 0 q) = bf q) (i : Fin 64) (j : Fin 2) :
    outB wih bp whh bn wfc bfc X (ix2 i j) = out (fun t k => seq X i k t) W U bi bh Wf bf j := by
  unfold outB out
  rw [pay11_apply, hb]
  refine congr (congr (congrArg unmix ?_) (emas_first X i (col j) 4095)) (emas_second X i (col j) 4095)
  exact congrArg (· + bf j) (Finset.sum_congr rfl fun k _ => by rw [hid_apply X hW, hf])

end Cert.KernelIdeal.Hand

end
-- ==== Proof.RefRows.lean ====
module

public import proofs.«01_k».proof.Proof.RefTrips
public import proofs.«01_k».proof.Proof.Model

/- The reference's arrays read at an entry, on extended reals. -/

@[expose] public section

set_option maxRecDepth 16384

noncomputable section

namespace Cert.ReferenceIdeal.Hand

open Cert.ReferenceIdeal Cert.ReferenceIdeal.Gen Cert.Model
open Idealize.ShloMosaic

/-- The contents of a buffer of this type. -/
local notation "C[" s ", " e "]" => BufTy.Contents (Elt Ideal) ⟨s, e⟩

/-- The row a counter names, on the first axis. -/
theorem at3_zero (k : ℕ) (hk : k < 4096) : at3 (cnt (F := Ideal) k) 0 = (k : Int) := by
  show (BitVec.ofNat 32 k).toInt = _
  rw [BitVec.toInt_eq_toNat_of_lt (by rw [BitVec.toNat_ofNat]; omega), BitVec.toNat_ofNat]
  omega

/-- A counter names the start of the second axis. -/
theorem at3_one (k : ℕ) : at3 (cnt (F := Ideal) k) 1 = 0 := rfl
/-- A counter names the start of the third axis. -/
theorem at3_two (k : ℕ) : at3 (cnt (F := Ideal) k) 2 = 0 := rfl

/-- Where a slice of one row of a stack starts, at a counter. -/
theorem start_row (k : ℕ) (hk : k < 4095) (ht : S1x128x64.rank = S4095x128x64.rank) :
    Host.clampedStart S4095x128x64 S1x128x64 ht (at3 (cnt (F := Ideal) k)) 0 = k
    ∧ Host.clampedStart S4095x128x64 S1x128x64 ht (at3 (cnt (F := Ideal) k)) 1 = 0
    ∧ Host.clampedStart S4095x128x64 S1x128x64 ht (at3 (cnt (F := Ideal) k)) 2 = 0 :=
  ⟨Host.clampedStart_of_le ht _ 0 k (at3_zero k (by omega)) (by show k + 1 ≤ 4095; omega), Host.clampedStart_of_le ht _ 1 0 (at3_one k) (by decide +revert),
    Host.clampedStart_of_le ht _ 2 0 (at3_two k) (by decide +revert)⟩

/-- Where a slice of one row of a stack of projections starts, at a counter. -/
theorem start_proj (k : ℕ) (hk : k < 4096) (ht : S1x128x384.rank = S4096x128x384.rank) :
    Host.clampedStart S4096x128x384 S1x128x384 ht (at3 (cnt (F := Ideal) k)) 0 = k
    ∧ Host.clampedStart S4096x128x384 S1x128x384 ht (at3 (cnt (F := Ideal) k)) 1 = 0
    ∧ Host.clampedStart S4096x128x384 S1x128x384 ht (at3 (cnt (F := Ideal) k)) 2 = 0 :=
  ⟨Host.clampedStart_of_le ht _ 0 k (at3_zero k hk) (by show k + 1 ≤ 4096; omega), Host.clampedStart_of_le ht _ 1 0 (at3_one k) (by decide +revert),
    Host.clampedStart_of_le ht _ 2 0 (at3_two k) (by decide +revert)⟩

/-- The stacked row at a counter. -/
theorem rowAt_apply (x : C[S4095x128x64, .f32]) (k : ℕ) (hk : k < 4095) (b : Fin 128) (j : Fin 64) :
    rowAt x (cnt (F := Ideal) k) (ix2 b j) = x (ix3 ⟨k, hk⟩ b j) := by
  unfold rowAt
  pointwise
  simp only [(start_row k hk _).1, (start_row k hk _).2.1, (start_row k hk _).2.2, Nat.zero_add]

/-- The stack with the counter's row replaced, at an entry. -/
theorem setRow_apply (x : C[S4095x128x64, .f32]) (r : C[S128x64, .f32]) (k : ℕ) (hk : k < 4095) (t : Fin 4095) (b : Fin 128) (j : Fin 64) :
    setRow x r (cnt (F := Ideal) k) (ix3 t b j) = if t.val = k then r (ix2 b j) else x (ix3 t b j) := by
  unfold setRow
  pointwise
  simp only [(start_row k hk _).1, (start_row k hk _).2.1, (start_row k hk _).2.2, Nat.sub_zero]
  by_cases h : t.val = k
  · rw [if_pos h, dif_pos ⟨by omega, by omega, by omega⟩]
  · rw [if_neg h, dif_neg (fun hh => h (by omega))]

/-- A step of an average at an entry. -/
theorem mix_apply (a b : BitVec 32) (x prev : C[S128x64, .f32]) (i : Fin 128) (j : Fin 64) :
    mix (constant (F := Ideal) S_ .f32 a) (constant (F := Ideal) S_ .f32 b) x prev (ix2 i j) = Ideal.ofBits .f32 a * x (ix2 i j) + Ideal.ofBits .f32 b * prev (ix2 i j) := by
  unfold mix
  pointwise

/-- The stacked projection at a counter. -/
theorem projAt_apply (x : C[S4096x128x384, .f32]) (k : ℕ) (hk : k < 4096) (b : Fin 128) (j : Fin 384) :
    projAt x (cnt (F := Ideal) k) (ix2 b j) = x (ix3 ⟨k, hk⟩ b j) := by
  unfold projAt
  pointwise
  simp only [(start_proj k hk _).1, (start_proj k hk _).2.1, (start_proj k hk _).2.2, Nat.zero_add]

/-- The state's projection at an entry. -/
theorem hproj_apply (w : C[S384x128, .f32]) (b : C[S384, .f32]) (h : C[S128x128, .f32]) (i : Fin 128) (q : Fin 384) :
    hproj w b h (ix2 i q) = affine (fun q k => w (ix2 q k)) (fun q => b (ix1 q)) (fun k => h (ix2 i k)) q := by
  unfold hproj
  pointwise
  rfl

/-- A step of the recurrence at a unit. -/
theorem gates_apply (p g : C[S128x384, .f32]) (h : C[S128x128, .f32]) (i l : Fin 128) :
    gates p g h (ix2 i l) = gate (fun q => p (ix2 i q)) (fun q => g (ix2 i q)) (fun k => h (ix2 i k)) l := by
  unfold gates logi ones cut0 cut1 cut2
  pointwise
  rfl

/-- The first row at an entry. -/
theorem firstRow_apply (x : C[S128x4096x64, .f32]) (b : Fin 128) (j : Fin 64) : firstRow x (ix2 b j) = x (ix3 b 0 j) := by
  unfold firstRow
  pointwise

/-- The rows after the first, at an entry. -/
theorem restRows_apply (x : C[S128x4096x64, .f32]) (t : Fin 4095) (b : Fin 128) (j : Fin 64) : restRows x (ix3 t b j) = x (ix3 b ⟨t.val + 1, by omega⟩ j) := by
  unfold restRows
  pointwise
  simp only [Nat.add_comm 1]

/-- A first row and a stack put together, at an entry. -/
theorem joinRows_apply (a : C[S128x64, .f32]) (s : C[S4095x128x64, .f32]) (b : Fin 128) (t : Fin 4096) (j : Fin 64) :
    joinRows a s (ix3 b t j) = if h : t.val = 0 then a (ix2 b j) else s (ix3 ⟨t.val - 1, by omega⟩ b j) := by
  unfold joinRows
  pointwise
  by_cases h : t.val = 0
  · rw [dif_pos h, dif_pos (by omega)]
  · rw [dif_neg h, dif_neg (by omega)]

/-- Columns 1 and 2 of the last row, at an entry. -/
theorem lastCols_apply (x : C[S128x4096x64, .f32]) (b : Fin 128) (j : Fin 2) : lastCols x (ix3 b 0 j) = x (ix3 b ⟨4095, by omega⟩ (col j)) := by
  unfold lastCols
  pointwise
  rfl

/-- The state at the start. -/
theorem zeroH_apply (i l : Fin 128) : zeroH (F := Ideal) (ix2 i l) = 0 := by
  unfold zeroH
  pointwise

/-- The input's projection at an entry. -/
theorem projAll_apply (s : C[S128x4096x64, .f32]) (w : C[S384x64, .f32]) (b : C[S384, .f32]) (t : Fin 4096) (i : Fin 128) (q : Fin 384) :
    projAll s w b (ix3 t i q) = affine (fun q k => w (ix2 q k)) (fun q => b (ix1 q)) (fun k => s (ix3 i t k)) q := by
  unfold projAll
  pointwise
  rfl

/-- The result at an entry. -/
theorem finish_apply (h : C[S128x128, .f32]) (w : C[S2x128, .f32]) (b : C[S2, .f32]) (e1 e2 : C[S128x1x2, .f32]) (i : Fin 128) (j : Fin 2) :
    finish h w b e1 e2 (ix3 i 0 j)
      = unmix (affine (fun q k => w (ix2 q k)) (fun q => b (ix1 q)) (fun k => h (ix2 i k)) j) (e1 (ix3 i 0 j)) (e2 (ix3 i 0 j)) := by
  unfold finish allOf
  pointwise
  rfl

/-- Feature `j` of batch row `b` along the time axis. -/
def seq (x : C[S128x4096x64, .f32]) (b : Fin 128) (j : Fin 64) (n : ℕ) : EReal := x (ix3 b (Fin.ofNat 4096 n) j)

/-- A loop's average after `n` rows is the average of the sequence at row `n`. -/
theorem avgAt_apply (u v : BitVec 32) (x : C[S128x4096x64, .f32]) (b : Fin 128) (j : Fin 64) (n : ℕ) (hn : n < 4096) :
    avgAt (mix (constant (F := Ideal) S_ .f32 u) (constant (F := Ideal) S_ .f32 v)) (restRows x) (firstRow x) n (ix2 b j)
      = ave (Ideal.ofBits .f32 u) (Ideal.ofBits .f32 v) (seq x b j) n := by
  induction n with
  | zero => exact firstRow_apply x b j
  | succ n ih =>
    show mix _ _ (rowAt (restRows x) (cnt (F := Ideal) n)) (avgAt _ (restRows x) (firstRow x) n) (ix2 b j)
      = Ideal.ofBits .f32 u * seq x b j (n + 1) + Ideal.ofBits .f32 v * ave (Ideal.ofBits .f32 u) (Ideal.ofBits .f32 v) (seq x b j) n
    rw [mix_apply, rowAt_apply _ n (by omega), restRows_apply, ih (by omega)]
    have e : (Fin.ofNat 4096 (n + 1)) = (⟨n + 1, hn⟩ : Fin 4096) := Fin.ext (by rw [Fin.val_ofNat]; exact Nat.mod_eq_of_lt hn)
    unfold seq
    rw [e]

/-- A filled row of a loop's stack is the loop's average after it. -/
theorem outAt_apply (step : C[S128x64, .f32] → C[S128x64, .f32] → C[S128x64, .f32]) (x : C[S4095x128x64, .f32]) (a : C[S128x64, .f32]) (k : ℕ) (hk : k ≤ 4095)
    (t : Fin 4095) (ht : t.val < k) (b : Fin 128) (j : Fin 64) : outAt step x a k (ix3 t b j) = avgAt step x a (t.val + 1) (ix2 b j) := by
  induction k with
  | zero => omega
  | succ k ih =>
    show setRow (outAt step x a k) (avgAt step x a (k + 1)) (cnt (F := Ideal) k) (ix3 t b j) = _
    rw [setRow_apply _ _ k (by omega)]
    by_cases h : t.val = k
    · rw [if_pos h, h]
    · rw [if_neg h, ih (by omega) (by omega)]

/-- A smoothed sequence at row `t` is the loop's average there. -/
theorem smoothed_apply (step : C[S128x64, .f32] → C[S128x64, .f32] → C[S128x64, .f32]) (x : C[S128x4096x64, .f32]) (b : Fin 128) (t : Fin 4096) (j : Fin 64) :
    smoothed step x (ix3 b t j) = avgAt step (restRows x) (firstRow x) t.val (ix2 b j) := by
  unfold smoothed
  rw [joinRows_apply]
  by_cases h : t.val = 0
  · rw [dif_pos h, h]; rfl
  · rw [dif_neg h, outAt_apply _ _ _ 4095 le_rfl _ (by show t.val - 1 < 4095; omega)]
    show avgAt step (restRows x) (firstRow x) (t.val - 1 + 1) (ix2 b j) = _
    rw [Nat.sub_add_cancel (by omega)]

/-- The first smoothing is the first average. -/
theorem smoothed_first (x : C[S128x4096x64, .f32]) (b : Fin 128) (t : Fin 4096) (j : Fin 64) : smoothed mix0 x (ix3 b t j) = first (seq x b j) t.val :=
  (smoothed_apply _ x b t j).trans (avgAt_apply _ _ x b j t.val t.isLt)

/-- The second smoothing is the second average. -/
theorem smoothed_second (x : C[S128x4096x64, .f32]) (b : Fin 128) (t : Fin 4096) (j : Fin 64) :
    smoothed mix1 (smoothed mix0 x) (ix3 b t j) = second (seq x b j) t.val := by
  refine ((smoothed_apply _ (smoothed mix0 x) b t j).trans (avgAt_apply _ _ (smoothed mix0 x) b j t.val t.isLt)).trans ?_
  refine ave_congr _ _ fun i hi => ?_
  have ht := t.isLt
  refine (smoothed_first x b (Fin.ofNat 4096 i) j).trans (congrArg (first (seq x b j)) ?_)
  rw [Fin.val_ofNat]; omega

/-- The reference's hidden state after `n` rows. -/
theorem hAt_apply (x : C[S128x4096x64, .f32]) (wih : C[S384x64, .f32]) (whh : C[S384x128, .f32]) (bih bhh : C[S384, .f32]) (b : Fin 128) (n : ℕ) (hn : n ≤ 4096)
    (l : Fin 128) :
    hAt (projAll (smoothed mix1 (smoothed mix0 x)) wih bih) whh bhh n (ix2 b l)
      = hidden (fun q k => whh (ix2 q k)) (fun q => bhh (ix1 q)) (projected (fun t k => seq x b k t) (fun q k => wih (ix2 q k)) (fun q => bih (ix1 q))) n l := by
  induction n generalizing l with
  | zero => exact zeroH_apply b l
  | succ n ih =>
    refine (gates_apply _ _ _ b l).trans ?_
    have hp : (fun q => projAt (projAll (smoothed mix1 (smoothed mix0 x)) wih bih) (cnt (F := Ideal) n) (ix2 b q))
        = projected (fun t k => seq x b k t) (fun q k => wih (ix2 q k)) (fun q => bih (ix1 q)) n := funext fun q => by
      rw [projAt_apply _ n (by omega), projAll_apply]
      simp only [smoothed_second]
      rfl
    have hh := funext fun k => ih (by omega) k
    rw [hp, hh]
    refine congrArg (fun g => gate _ g _ l) (funext fun q => ?_)
    rw [hproj_apply, hh]

/-- The reference's result at an entry. -/
theorem value_apply (x : C[S128x4096x64, .f32]) (wih : C[S384x64, .f32]) (whh : C[S384x128, .f32]) (bih bhh : C[S384, .f32]) (wfc : C[S2x128, .f32]) (bfc : C[S2, .f32])
    (b : Fin 128) (j : Fin 2) :
    value x wih whh bih bhh wfc bfc (ix3 b 0 j)
      = out (fun t k => seq x b k t) (fun q k => wih (ix2 q k)) (fun q k => whh (ix2 q k)) (fun q => bih (ix1 q)) (fun q => bhh (ix1 q)) (fun q k => wfc (ix2 q k))
          (fun q => bfc (ix1 q)) j := by
  unfold value out
  rw [finish_apply, lastCols_apply, lastCols_apply, smoothed_first, smoothed_second]
  have hh := funext fun k => hAt_apply x wih whh bih bhh b 4096 le_rfl k
  rw [hh]

end Cert.ReferenceIdeal.Hand

end
-- ==== Proof.Equation.lean ====
module

public import proofs.«01_k».proof.Proof.KernelOut
public import proofs.«01_k».proof.Proof.KernelRows
public import proofs.«01_k».proof.Proof.RefRows
public import proofs.«01_k».proof.Proof.RefRun

/- The kernel's result is the reference's, on extended reals, at equal arguments. -/

@[expose] public section

set_option maxRecDepth 16384

noncomputable section

namespace Cert.Equation

open Cert.KernelIdeal Cert.KernelIdeal.Hand Cert.Model
open Idealize.ShloMosaic Idealize.ShloMosaic.TcCoe Idealize.SL.Sem

variable (m : (ℓ : Loc nD τ sig) → Buf (Elt Ideal) ℓ) (c : Dev nD)

/-- The kernel's weights, entry by entry, in terms of the arguments. -/
theorem weights : Weights (kWih m c) (kBp m c) (kWhh m c) (kBn m c) (fun q k => m ((c : Thread nD τ).loc main_arg1) (ix2 q k))
    (fun q k => m ((c : Thread nD τ).loc main_arg2) (ix2 q k)) (fun q => m ((c : Thread nD τ).loc main_arg3) (ix1 q))
    (fun q => m ((c : Thread nD τ).loc main_arg4) (ix1 q)) where
  wih := kWih_apply m c
  whh := kWhh_apply m c
  low := kBp_low m c
  high := fun q h => (kBp_high m c q h).trans (congrArg (HAdd.hAdd (α := EReal) (β := EReal) (m ((c : Thread nD τ).loc main_arg3) (ix1 q))) Ideal.ofBits_zero_f32)
  bn := kBn_apply m c

/-- The kernel's row `n` of walk `g` holds the input at time `n`, batch row `64 g + i`. -/
theorem rows_apply (g : ℕ) (hg : g < 2) (n : ℕ) (hn : n < 4096) (i k : Fin 64) :
    rows (kX m c g) n (ix3 0 i k) = m ((c : Thread nD τ).loc main_arg0) (ix3 (Fin.ofNat 128 (64 * g + i.val)) (Fin.ofNat 4096 n) k) := by
  have h : rows (kX m c g) n (ix3 0 i k) = kX m c g (n / 128) (ix3 (Fin.ofNat 128 (n % 128)) i k) := rfl
  rw [h, kX_apply m c g (n / 128) hg]
  have e : 128 * min (n / 128) 31 + (Fin.ofNat 128 (n % 128)).val = n := by rw [Fin.val_ofNat]; omega
  show m ((c : Thread nD τ).loc main_arg0) (ix3 (Fin.ofNat 128 (64 * g + i.val)) (Fin.ofNat 4096 (128 * min (n / 128) 31 + (Fin.ofNat 128 (n % 128)).val)) k) = _
  rw [e]

/-- Results of two inputs that agree along the time axis agree. -/
theorem out_congr {x y : ℕ → Fin 64 → EReal} (h : ∀ n, n < 4096 → ∀ k, x n k = y n k) (wih : Fin 384 → Fin 64 → EReal) (whh : Fin 384 → Fin 128 → EReal)
    (bih bhh : Fin 384 → EReal) (wfc : Fin 2 → Fin 128 → EReal) (bfc : Fin 2 → EReal) (j : Fin 2) :
    out x wih whh bih bhh wfc bfc j = out y wih whh bih bhh wfc bfc j := by
  have hp : ∀ n, n < 4096 → projected x wih bih n = projected y wih bih n := fun n hn => by
    unfold projected
    refine congrArg _ (funext fun k => second_congr fun i hi => h i (by omega) k)
  unfold out
  rw [hidden_congr whh bhh hp, first_congr (n := 4095) fun i hi => h i (by omega) (col j), second_congr (n := 4095) fun i hi => h i (by omega) (col j)]

/-- The kernel's result is what the reference computes from the same arguments. -/
theorem kRes_eq : kRes m c = ReferenceIdeal.Hand.value (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  funext y
  obtain ⟨b, z, j, rfl⟩ : ∃ (b : Fin 128) (z : Fin 1) (j : Fin 2), y = ix3 b z j := ⟨y 0, y 1, y 2, (eq_ix3 y)⟩
  obtain rfl : z = 0 := Subsingleton.elim _ _
  have hb := b.isLt
  refine Eq.trans ?_ (ReferenceIdeal.Hand.value_apply _ _ _ _ _ _ _ b j).symm
  show outB _ _ _ _ _ _ (kX m c (b.val / 64)) (ix2 (Fin.ofNat 64 b.val) j) = _
  refine (outB_apply (kX m c (b.val / 64)) (weights m c) _ _ _ _ (kWfc_apply m c) (kBfc_apply m c) (Fin.ofNat 64 b.val) j).trans ?_
  refine out_congr (fun n hn k => ?_) _ _ _ _ _ _ j
  refine (rows_apply m c (b.val / 64) (by omega) n hn _ k).trans ?_
  have e : Fin.ofNat 128 (64 * (b.val / 64) + (Fin.ofNat 64 b.val).val) = b := Fin.ext (by rw [Fin.val_ofNat, Fin.val_ofNat]; omega)
  rw [e]
  rfl

end Cert.Equation

end
-- ==== Proof.lean ====
module

public import proofs.«01_k».proof.Defs
public import proofs.«01_k».proof.Proof.Launch
public import proofs.«01_k».proof.Proof.LaunchI
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From equal arguments the ideal kernel and the reference end with the same result, the arguments as they were. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Hand.kRes m c, Cert.KernelIdeal.Hand.run_res m g, ?_⟩
  refine (θ_run _ _ _).mono (fun r hr c => ⟨(hr c).1.trans ?_, (hr c).2⟩) (Cert.ReferenceIdeal.Hand.run_value m' g')
  obtain ⟨h0, h1, h2, h3, h4, h5, h6⟩ := h c
  rw [h0, h1, h2, h3, h4, h5, h6]
  exact (Cert.Equation.kRes_eq m c).symm

/-- Every claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Hand.frame m ρ, trivial, algebraic⟩

end Cert.Proof

end
